-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x20000x4 : Shape := ⟨3, ![8, 20000, 4]⟩
abbrev S160000x81 : Shape := ⟨2, ![160000, 81]⟩
abbrev S20000x4 : Shape := ⟨2, ![20000, 4]⟩
abbrev S8x20000x81 : Shape := ⟨3, ![8, 20000, 81]⟩
abbrev S8x81x20000 : Shape := ⟨3, ![8, 81, 20000]⟩
abbrev S8x80x20000 : Shape := ⟨3, ![8, 80, 20000]⟩
abbrev S_ : Shape := ⟨0, ![]⟩
abbrev S8x80x20480 : Shape := ⟨3, ![8, 80, 20480]⟩
abbrev S8x80x160x128 : Shape := ⟨4, ![8, 80, 160, 128]⟩
abbrev S8x4x20000 : Shape := ⟨3, ![8, 4, 20000]⟩
abbrev S8x4x20480 : Shape := ⟨3, ![8, 4, 20480]⟩
abbrev S8x4x160x128 : Shape := ⟨4, ![8, 4, 160, 128]⟩
abbrev S4x20000 : Shape := ⟨2, ![4, 20000]⟩
abbrev S4x20480 : Shape := ⟨2, ![4, 20480]⟩
abbrev S4x160x128 : Shape := ⟨3, ![4, 160, 128]⟩
abbrev S8x80x8x256 : Shape := ⟨4, ![8, 80, 8, 256]⟩
abbrev S8x80x256x8 : Shape := ⟨4, ![8, 80, 256, 8]⟩
abbrev S8x80x200x5 : Shape := ⟨4, ![8, 80, 200, 5]⟩
abbrev S8x1x200x5 : Shape := ⟨4, ![8, 1, 200, 5]⟩
abbrev S8x81x200x5 : Shape := ⟨4, ![8, 81, 200, 5]⟩
abbrev S1x1x160x128 : Shape := ⟨4, ![1, 1, 160, 128]⟩
abbrev S1x4x160x128 : Shape := ⟨4, ![1, 4, 160, 128]⟩
abbrev S1x1x8x256 : Shape := ⟨4, ![1, 1, 8, 256]⟩
abbrev S256x256 : Shape := ⟨2, ![256, 256]⟩
abbrev S1x160x128 : Shape := ⟨3, ![1, 160, 128]⟩
abbrev S160x128 : Shape := ⟨2, ![160, 128]⟩
abbrev S1x256 : Shape := ⟨2, ![1, 256]⟩
abbrev S1 : Shape := ⟨1, ![1]⟩
abbrev S1x1x1 : Shape := ⟨3, ![1, 1, 1]⟩
abbrev S256 : Shape := ⟨1, ![256]⟩
abbrev S256x1 : Shape := ⟨2, ![256, 1]⟩
abbrev S1x160 : Shape := ⟨2, ![1, 160]⟩
abbrev S1x128 : Shape := ⟨2, ![1, 128]⟩
abbrev S256x160 : Shape := ⟨2, ![256, 160]⟩
abbrev S256x128 : Shape := ⟨2, ![256, 128]⟩
abbrev S1x1x256 : Shape := ⟨3, ![1, 1, 256]⟩
abbrev S3x256 : Shape := ⟨2, ![3, 256]⟩
abbrev S8x256 : Shape := ⟨2, ![8, 256]⟩

abbrev nBuf : Space → Nat
  | .hbm => 26
  | .vmem => 8
  | .smem => 0
  | _ => 0

abbrev bufTy : (tb : Table) → Fin (tcTables nBuf tb) → BufTy
  | .hbm, ⟨0, _⟩ => ⟨S8x20000x4, .f32⟩
  | .hbm, ⟨1, _⟩ => ⟨S160000x81, .f32⟩
  | .hbm, ⟨2, _⟩ => ⟨S20000x4, .f32⟩
  | .hbm, ⟨3, _⟩ => ⟨S8x20000x81, .f32⟩
  | .hbm, ⟨4, _⟩ => ⟨S8x81x20000, .f32⟩
  | .hbm, ⟨5, _⟩ => ⟨S8x80x20000, .f32⟩
  | .hbm, ⟨6, _⟩ => ⟨S_, .i32⟩
  | .hbm, ⟨7, _⟩ => ⟨S_, .f32⟩
  | .hbm, ⟨8, _⟩ => ⟨S8x80x20480, .f32⟩
  | .hbm, ⟨9, _⟩ => ⟨S8x80x160x128, .f32⟩
  | .hbm, ⟨10, _⟩ => ⟨S8x4x20000, .f32⟩
  | .hbm, ⟨11, _⟩ => ⟨S_, .i32⟩
  | .hbm, ⟨12, _⟩ => ⟨S_, .f32⟩
  | .hbm, ⟨13, _⟩ => ⟨S8x4x20480, .f32⟩
  | .hbm, ⟨14, _⟩ => ⟨S8x4x160x128, .f32⟩
  | .hbm, ⟨15, _⟩ => ⟨S4x20000, .f32⟩
  | .hbm, ⟨16, _⟩ => ⟨S_, .i32⟩
  | .hbm, ⟨17, _⟩ => ⟨S_, .f32⟩
  | .hbm, ⟨18, _⟩ => ⟨S4x20480, .f32⟩
  | .hbm, ⟨19, _⟩ => ⟨S4x160x128, .f32⟩
  | .hbm, ⟨20, _⟩ => ⟨S8x80x8x256, .f32⟩
  | .hbm, ⟨21, _⟩ => ⟨S8x80x256x8, .f32⟩
  | .hbm, ⟨22, _⟩ => ⟨S8x80x200x5, .f32⟩
  | .hbm, ⟨23, _⟩ => ⟨S_, .f32⟩
  | .hbm, ⟨24, _⟩ => ⟨S8x1x200x5, .f32⟩
  | .hbm, ⟨25, _⟩ => ⟨S8x81x200x5, .f32⟩
  | .local _ .vmem, ⟨0, _⟩ => ⟨S1x1x160x128, .f32⟩
  | .local _ .vmem, ⟨1, _⟩ => ⟨S1x1x160x128, .f32⟩
  | .local _ .vmem, ⟨2, _⟩ => ⟨S1x4x160x128, .f32⟩
  | .local _ .vmem, ⟨3, _⟩ => ⟨S1x4x160x128, .f32⟩
  | .local _ .vmem, ⟨4, _⟩ => ⟨S4x160x128, .f32⟩
  | .local _ .vmem, ⟨5, _⟩ => ⟨S1x1x8x256, .f32⟩
  | .local _ .vmem, ⟨6, _⟩ => ⟨S1x1x8x256, .f32⟩
  | .local _ .vmem, ⟨7, _⟩ => ⟨S256x256, .f32⟩
  | _, _ => ⟨S8x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c : Ref sig .tc := ⟨.hbm, 6, rfl⟩
abbrev main_call0_call0_v0 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_0 : Ref sig .tc := ⟨.hbm, 11, rfl⟩
abbrev main_call0_call1_v0 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c_1 : Ref sig .tc := ⟨.hbm, 16, rfl⟩
abbrev main_call0_call2_v0 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 80], ![false, false]⟩

@[reducible] def k0_t1_loop : Scf.Loop 32 :=
  let c0_i32 : BitVec 32 := 0#32
  let c200_i32 : BitVec 32 := 200#32
  let v64 : BitVec 32 := Scalar.addi c0_i32 c200_i32
  let c1_i32 : BitVec 32 := 1#32
  ⟨c0_i32, v64, c1_i32⟩
@[reducible] def k0_t2_loop : Scf.Loop 32 :=
  let c0_i32_53 : BitVec 32 := 0#32
  let c200_i32_54 : BitVec 32 := 200#32
  let v178 : BitVec 32 := Scalar.addi c0_i32_53 c200_i32_54
  let c1_i32_55 : BitVec 32 := 1#32
  ⟨c0_i32_53, v178, c1_i32_55⟩
def k0_off1 (k0_t2 : Fin k0_t2_loop.trips) : Fin 2 → Nat :=
  let c0_i32_53 : BitVec 32 := 0#32
  let c1_i32_55 : BitVec 32 := 1#32
  let arg7 : BitVec 32 := Scf.iv c0_i32_53 c1_i32_55 k0_t2
  let v264 : Index := Scalar.indexCast arg7
  let c0_87 : Index := 0#32
  ![v264.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x160x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x20000x4 : Shape := ⟨3, ![8, 20000, 4]⟩
abbrev S160000x81 : Shape := ⟨2, ![160000, 81]⟩
abbrev S20000x4 : Shape := ⟨2, ![20000, 4]⟩
abbrev S8x20000x81 : Shape := ⟨3, ![8, 20000, 81]⟩
abbrev S8x81x20000 : Shape := ⟨3, ![8, 81, 20000]⟩
abbrev S8x80x20000 : Shape := ⟨3, ![8, 80, 20000]⟩
abbrev S20000x2 : Shape := ⟨2, ![20000, 2]⟩
abbrev S8x20000x2 : Shape := ⟨3, ![8, 20000, 2]⟩
abbrev S_ : Shape := ⟨0, ![]⟩
abbrev S1x20000x2 : Shape := ⟨3, ![1, 20000, 2]⟩
abbrev S8x80x200 : Shape := ⟨3, ![8, 80, 200]⟩
abbrev S8 : Shape := ⟨1, ![8]⟩
abbrev S8x1x1 : Shape := ⟨3, ![8, 1, 1]⟩
abbrev S8x80x200x1 : Shape := ⟨4, ![8, 80, 200, 1]⟩
abbrev S8x80x200x2 : Shape := ⟨4, ![8, 80, 200, 2]⟩
abbrev S8x80x200x4 : Shape := ⟨4, ![8, 80, 200, 4]⟩
abbrev S8x80x1x200 : Shape := ⟨4, ![8, 80, 1, 200]⟩
abbrev S8x80x200x200 : Shape := ⟨4, ![8, 80, 200, 200]⟩
abbrev S200 : Shape := ⟨1, ![200]⟩
abbrev S8x80x1 : Shape := ⟨3, ![8, 80, 1]⟩
abbrev S1x1x200 : Shape := ⟨3, ![1, 1, 200]⟩
abbrev S8x80x200x5 : Shape := ⟨4, ![8, 80, 200, 5]⟩
abbrev S80 : Shape := ⟨1, ![80]⟩
abbrev S1x80x1 : Shape := ⟨3, ![1, 80, 1]⟩
abbrev S8x80x200x3 : Shape := ⟨4, ![8, 80, 200, 3]⟩
abbrev S8x1x200x5 : Shape := ⟨4, ![8, 1, 200, 5]⟩
abbrev S8x81x200x5 : Shape := ⟨4, ![8, 81, 200, 5]⟩

abbrev nBuf : Space → Nat
  | .hbm => 225
  | .vmem => 0
  | .smem => 0
  | _ => 0

abbrev hbmTy0_0 (i : Nat) : BufTy := match i % 128 with
  | 0 => ⟨S8x20000x4, .f32⟩
  | 1 => ⟨S160000x81, .f32⟩
  | 2 => ⟨S20000x4, .f32⟩
  | 3 => ⟨S8x20000x81, .f32⟩
  | 4 => ⟨S8x81x20000, .f32⟩
  | 5 => ⟨S8x80x20000, .f32⟩
  | 6 => ⟨S20000x2, .f32⟩
  | 7 => ⟨S8x20000x2, .f32⟩
  | 8 => ⟨S_, .f32⟩
  | 9 => ⟨S8x20000x2, .f32⟩
  | 10 => ⟨S8x20000x2, .f32⟩
  | 11 => ⟨S20000x2, .f32⟩
  | 12 => ⟨S1x20000x2, .f32⟩
  | 13 => ⟨S8x20000x2, .f32⟩
  | 14 => ⟨S8x20000x2, .f32⟩
  | 15 => ⟨S1x20000x2, .f32⟩
  | 16 => ⟨S8x20000x2, .f32⟩
  | 17 => ⟨S8x20000x2, .f32⟩
  | 18 => ⟨S20000x2, .f32⟩
  | 19 => ⟨S8x20000x2, .f32⟩
  | 20 => ⟨S_, .f32⟩
  | 21 => ⟨S8x20000x2, .f32⟩
  | 22 => ⟨S8x20000x2, .f32⟩
  | 23 => ⟨S8x20000x2, .f32⟩
  | 24 => ⟨S1x20000x2, .f32⟩
  | 25 => ⟨S8x20000x2, .f32⟩
  | 26 => ⟨S8x20000x2, .f32⟩
  | 27 => ⟨S_, .f32⟩
  | 28 => ⟨S8x20000x2, .f32⟩
  | 29 => ⟨S8x20000x2, .f32⟩
  | 30 => ⟨S8x20000x2, .f32⟩
  | 31 => ⟨S8x20000x2, .f32⟩
  | 32 => ⟨S8x20000x4, .f32⟩
  | 33 => ⟨S_, .f32⟩
  | 34 => ⟨S8x80x20000, .f32⟩
  | 35 => ⟨S8x80x20000, .i1⟩
  | 36 => ⟨S_, .f32⟩
  | 37 => ⟨S_, .f32⟩
  | 38 => ⟨S8x80x20000, .f32⟩
  | 39 => ⟨S8x80x20000, .f32⟩
  | 40 => ⟨S8x80x200, .f32⟩
  | 41 => ⟨S8x80x200, .i32⟩
  | 42 => ⟨S8, .i32⟩
  | 43 => ⟨S8x1x1, .i32⟩
  | 44 => ⟨S_, .i32⟩
  | 45 => ⟨S8x1x1, .i32⟩
  | 46 => ⟨S8x1x1, .i1⟩
  | 47 => ⟨S_, .i32⟩
  | 48 => ⟨S8x1x1, .i32⟩
  | 49 => ⟨S8x1x1, .i32⟩
  | 50 => ⟨S8x1x1, .i32⟩
  | 51 => ⟨S_, .i32⟩
  | 52 => ⟨S8x80x200, .i32⟩
  | 53 => ⟨S8x80x200, .i1⟩
  | 54 => ⟨S_, .i32⟩
  | 55 => ⟨S8x80x200, .i32⟩
  | 56 => ⟨S8x80x200, .i32⟩
  | 57 => ⟨S8x80x200, .i32⟩
  | 58 => ⟨S8x80x200, .i32⟩
  | 59 => ⟨S8x80x200x1, .i32⟩
  | 60 => ⟨S8x80x200x1, .i32⟩
  | 61 => ⟨S8x80x200x2, .i32⟩
  | 62 => ⟨S8x80x200x4, .f32⟩
  | 63 => ⟨S8x80x200x1, .f32⟩
  | 64 => ⟨S8x80x200, .f32⟩
  | 65 => ⟨S8x80x200x1, .f32⟩
  | 66 => ⟨S8x80x200, .f32⟩
  | 67 => ⟨S8x80x200x1, .f32⟩
  | 68 => ⟨S8x80x200, .f32⟩
  | 69 => ⟨S8x80x200x1, .f32⟩
  | 70 => ⟨S8x80x200, .f32⟩
  | 71 => ⟨S8x80x200, .f32⟩
  | 72 => ⟨S_, .f32⟩
  | 73 => ⟨S8x80x200, .f32⟩
  | 74 => ⟨S8x80x200, .f32⟩
  | 75 => ⟨S8x80x200, .f32⟩
  | 76 => ⟨S_, .f32⟩
  | 77 => ⟨S8x80x200, .f32⟩
  | 78 => ⟨S8x80x200, .f32⟩
  | 79 => ⟨S8x80x200, .f32⟩
  | 80 => ⟨S8x80x200x1, .f32⟩
  | 81 => ⟨S8x80x1x200, .f32⟩
  | 82 => ⟨S8x80x200x200, .f32⟩
  | 83 => ⟨S8x80x200x200, .f32⟩
  | 84 => ⟨S8x80x200x200, .f32⟩
  | 85 => ⟨S8x80x200x1, .f32⟩
  | 86 => ⟨S8x80x1x200, .f32⟩
  | 87 => ⟨S8x80x200x200, .f32⟩
  | 88 => ⟨S8x80x200x200, .f32⟩
  | 89 => ⟨S8x80x200x200, .f32⟩
  | 90 => ⟨S8x80x200x200, .f32⟩
  | 91 => ⟨S_, .f32⟩
  | 92 => ⟨S8x80x200x200, .f32⟩
  | 93 => ⟨S8x80x200x200, .f32⟩
  | 94 => ⟨S8x80x200x1, .f32⟩
  | 95 => ⟨S8x80x1x200, .f32⟩
  | 96 => ⟨S8x80x200x200, .f32⟩
  | 97 => ⟨S8x80x200x200, .f32⟩
  | 98 => ⟨S8x80x200x200, .f32⟩
  | 99 => ⟨S8x80x200x1, .f32⟩
  | 100 => ⟨S8x80x1x200, .f32⟩
  | 101 => ⟨S8x80x200x200, .f32⟩
  | 102 => ⟨S8x80x200x200, .f32⟩
  | 103 => ⟨S8x80x200x200, .f32⟩
  | 104 => ⟨S8x80x200x200, .f32⟩
  | 105 => ⟨S_, .f32⟩
  | 106 => ⟨S8x80x200x200, .f32⟩
  | 107 => ⟨S8x80x200x200, .f32⟩
  | 108 => ⟨S8x80x200x200, .f32⟩
  | 109 => ⟨S8x80x200x1, .f32⟩
  | 110 => ⟨S8x80x1x200, .f32⟩
  | 111 => ⟨S8x80x200x200, .f32⟩
  | 112 => ⟨S8x80x200x200, .f32⟩
  | 113 => ⟨S8x80x200x200, .f32⟩
  | 114 => ⟨S8x80x200x200, .f32⟩
  | 115 => ⟨S_, .f32⟩
  | 116 => ⟨S8x80x200x200, .f32⟩
  | 117 => ⟨S8x80x200x200, .f32⟩
  | 118 => ⟨S8x80x200x200, .f32⟩
  | 119 => ⟨S200, .i32⟩
  | 120 => ⟨S_, .f32⟩
  | 121 => ⟨S8x80x200, .f32⟩
  | 122 => ⟨S8x80x200, .i1⟩
  | 123 => ⟨S_, .i32⟩
  | 124 => ⟨S_, .i32⟩
  | 125 => ⟨S8x80x200x200, .f32⟩
  | 126 => ⟨S200, .i32⟩
  | 127 => ⟨S_, .i32⟩
  | _ => ⟨S8x20000x4, .f32⟩

abbrev hbmTy0_1 (i : Nat) : BufTy := match i % 128 with
  | 0 => ⟨S_, .i32⟩
  | 1 => ⟨S8x80x200, .i1⟩
  | 2 => ⟨S_, .i32⟩
  | 3 => ⟨S_, .i1⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S8x80x1x200, .f32⟩
  | 16 => ⟨S8x80x200, .f32⟩
  | 17 => ⟨S_, .f32⟩
  | 18 => ⟨S8x80x200, .f32⟩
  | 19 => ⟨S8x80x200, .i1⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S8x80x1, .i1⟩
  | 29 => ⟨S8x80x200, .i1⟩
  | 30 => ⟨S8x80x200, .i1⟩
  | 31 => ⟨S_, .i32⟩
  | 32 => ⟨S200, .i32⟩
  | 33 => ⟨S200, .i1⟩
  | 34 => ⟨S1x1x200, .i1⟩
  | 35 => ⟨S8x80x200, .i1⟩
  | 36 => ⟨S8x80x200, .i1⟩
  | 37 => ⟨S8x80x200, .i1⟩
  | 38 => ⟨S8x80x200, .i1⟩
  | 39 => ⟨S_, .i32⟩
  | 40 => ⟨S_, .i32⟩
  | 41 => ⟨S8x80x200x1, .f32⟩
  | 42 => ⟨S8x80x200x5, .f32⟩
  | 43 => ⟨S8x80x200x1, .i1⟩
  | 44 => ⟨S_, .f32⟩
  | 45 => ⟨S_, .f32⟩
  | 46 => ⟨S8x80x200x5, .i1⟩
  | 47 => ⟨S8x80x200x5, .f32⟩
  | 48 => ⟨S8x80x200x5, .f32⟩
  | 49 => ⟨S8x80x200, .i32⟩
  | 50 => ⟨S_, .i32⟩
  | 51 => ⟨S_, .i32⟩
  | 52 => ⟨S8x80x200, .i32⟩
  | 53 => ⟨S_, .i32⟩
  | 54 => ⟨S8x80x200, .i32⟩
  | 55 => ⟨S8x80x200, .i32⟩
  | 56 => ⟨S_, .i32⟩
  | 57 => ⟨S_, .i32⟩
  | 58 => ⟨S8x80x200, .i32⟩
  | 59 => ⟨S8x80x200, .i32⟩
  | 60 => ⟨S_, .f32⟩
  | 61 => ⟨S8x80x200x5, .f32⟩
  | 62 => ⟨S8, .i32⟩
  | 63 => ⟨S8x1x1, .i32⟩
  | 64 => ⟨S80, .i32⟩
  | 65 => ⟨S1x80x1, .i32⟩
  | 66 => ⟨S_, .i32⟩
  | 67 => ⟨S8x1x1, .i32⟩
  | 68 => ⟨S8x1x1, .i1⟩
  | 69 => ⟨S_, .i32⟩
  | 70 => ⟨S8x1x1, .i32⟩
  | 71 => ⟨S8x1x1, .i32⟩
  | 72 => ⟨S8x1x1, .i32⟩
  | 73 => ⟨S_, .i32⟩
  | 74 => ⟨S1x80x1, .i32⟩
  | 75 => ⟨S1x80x1, .i1⟩
  | 76 => ⟨S_, .i32⟩
  | 77 => ⟨S1x80x1, .i32⟩
  | 78 => ⟨S1x80x1, .i32⟩
  | 79 => ⟨S1x80x1, .i32⟩
  | 80 => ⟨S_, .i32⟩
  | 81 => ⟨S8x80x200, .i32⟩
  | 82 => ⟨S8x80x200, .i1⟩
  | 83 => ⟨S_, .i32⟩
  | 84 => ⟨S8x80x200, .i32⟩
  | 85 => ⟨S8x80x200, .i32⟩
  | 86 => ⟨S8x80x200, .i32⟩
  | 87 => ⟨S8x80x200, .i32⟩
  | 88 => ⟨S8x80x200, .i32⟩
  | 89 => ⟨S8x80x200x1, .i32⟩
  | 90 => ⟨S8x80x200x1, .i32⟩
  | 91 => ⟨S8x80x200x1, .i32⟩
  | 92 => ⟨S8x80x200x3, .i32⟩
  | 93 => ⟨S8x80x200x5, .f32⟩
  | 94 => ⟨S_, .f32⟩
  | 95 => ⟨S8x1x200x5, .f32⟩
  | 96 => ⟨S8x81x200x5, .f32⟩
  | _ => ⟨S8x20000x4, .f32⟩

abbrev hbmTy (i : Nat) : BufTy := match i / 128 with
  | 0 => hbmTy0_0 i
  | 1 => hbmTy0_1 i
  | _ => ⟨S8x20000x4, .f32⟩

abbrev bufTy : (tb : Table) → Fin (tcTables nBuf tb) → BufTy
  | .hbm, ⟨i, _⟩ => hbmTy i
  | _, _ => ⟨S8x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v29 : Ref sig .tc := ⟨.hbm, 39, rfl⟩
abbrev main_values : Ref sig .tc := ⟨.hbm, 40, rfl⟩
abbrev main_indices : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_v32 : Ref sig .tc := ⟨.hbm, 45, rfl⟩
abbrev main_v33 : Ref sig .tc := ⟨.hbm, 46, rfl⟩
abbrev main_c_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_10 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_11 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_12 : Ref sig .tc := ⟨.hbm, 120, rfl⟩
abbrev main_v99 : Ref sig .tc := ⟨.hbm, 121, rfl⟩
abbrev main_v100 : Ref sig .tc := ⟨.hbm, 122, rfl⟩
abbrev main_c_13 : Ref sig .tc := ⟨.hbm, 123, rfl⟩
abbrev main_c_14 : Ref sig .tc := ⟨.hbm, 124, rfl⟩
abbrev main_v101_0 : Ref sig .tc := ⟨.hbm, 125, rfl⟩
abbrev main_v101_1 : Ref sig .tc := ⟨.hbm, 126, rfl⟩
abbrev main_v101_2 : Ref sig .tc := ⟨.hbm, 127, rfl⟩
abbrev main_v101_3 : Ref sig .tc := ⟨.hbm, 128, rfl⟩
abbrev main_v101_4 : Ref sig .tc := ⟨.hbm, 129, rfl⟩
abbrev main_while0c_c_30 : Ref sig .tc := ⟨.hbm, 130, rfl⟩
abbrev main_while0c_v140 : Ref sig .tc := ⟨.hbm, 131, rfl⟩
abbrev main_while0b_c_30 : Ref sig .tc := ⟨.hbm, 132, rfl⟩
abbrev main_while0b_v140 : Ref sig .tc := ⟨.hbm, 133, rfl⟩
abbrev main_while0b_c_31 : Ref sig .tc := ⟨.hbm, 134, rfl⟩
abbrev main_while0b_v141 : Ref sig .tc := ⟨.hbm, 135, rfl⟩
abbrev main_while0b_v142 : Ref sig .tc := ⟨.hbm, 136, rfl⟩
abbrev main_while0b_c_32 : Ref sig .tc := ⟨.hbm, 137, rfl⟩
abbrev main_while0b_v143 : Ref sig .tc := ⟨.hbm, 138, rfl⟩
abbrev main_while0b_v144 : Ref sig .tc := ⟨.hbm, 139, rfl⟩
abbrev main_while0b_c_33 : Ref sig .tc := ⟨.hbm, 140, rfl⟩
abbrev main_while0b_c_34 : Ref sig .tc := ⟨.hbm, 141, rfl⟩
abbrev main_while0b_c_35 : Ref sig .tc := ⟨.hbm, 142, rfl⟩
abbrev main_while0b_v145 : Ref sig .tc := ⟨.hbm, 143, rfl⟩
abbrev main_while0b_v146 : Ref sig .tc := ⟨.hbm, 144, rfl⟩
abbrev main_while0b_cst_36 : Ref sig .tc := ⟨.hbm, 145, rfl⟩
abbrev main_while0b_v147 : Ref sig .tc := ⟨.hbm, 146, rfl⟩
abbrev main_while0b_v148 : Ref sig .tc := ⟨.hbm, 147, rfl⟩
abbrev main_while0b_c_37 : Ref sig .tc := ⟨.hbm, 148, rfl⟩
abbrev main_while0b_v149 : Ref sig .tc := ⟨.hbm, 149, rfl⟩
abbrev main_while0b_v150 : Ref sig .tc := ⟨.hbm, 150, rfl⟩
abbrev main_while0b_c_38 : Ref sig .tc := ⟨.hbm, 151, rfl⟩
abbrev main_while0b_v151 : Ref sig .tc := ⟨.hbm, 152, rfl⟩
abbrev main_while0b_v152 : Ref sig .tc := ⟨.hbm, 153, rfl⟩
abbrev main_while0b_c_39 : Ref sig .tc := ⟨.hbm, 154, rfl⟩
abbrev main_while0b_c_40 : Ref sig .tc := ⟨.hbm, 155, rfl⟩
abbrev main_while0b_v153 : Ref sig .tc := ⟨.hbm, 156, rfl⟩
abbrev main_while0b_v154 : Ref sig .tc := ⟨.hbm, 157, rfl⟩
abbrev main_while0b_v155 : Ref sig .tc := ⟨.hbm, 158, rfl⟩
abbrev main_while0b_v156 : Ref sig .tc := ⟨.hbm, 159, rfl⟩
abbrev main_while0b_v157 : Ref sig .tc := ⟨.hbm, 160, rfl⟩
abbrev main_while0b_v158 : Ref sig .tc := ⟨.hbm, 161, rfl⟩
abbrev main_while0b_v159 : Ref sig .tc := ⟨.hbm, 162, rfl⟩
abbrev main_while0b_v160 : Ref sig .tc := ⟨.hbm, 163, rfl⟩
abbrev main_while0b_v161 : Ref sig .tc := ⟨.hbm, 164, rfl⟩
abbrev main_while0b_v162 : Ref sig .tc := ⟨.hbm, 165, rfl⟩
abbrev main_while0b_v163 : Ref sig .tc := ⟨.hbm, 166, rfl⟩
abbrev main_while0b_c_41 : Ref sig .tc := ⟨.hbm, 167, rfl⟩
abbrev main_while0b_v164 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_cst_15 : Ref sig .tc := ⟨.hbm, 172, rfl⟩
abbrev main_call1_v0 : Ref sig .tc := ⟨.hbm, 173, rfl⟩
abbrev main_call1_v1 : Ref sig .tc := ⟨.hbm, 174, rfl⟩
abbrev main_call1_v2 : Ref sig .tc := ⟨.hbm, 175, rfl⟩
abbrev main_v105 : Ref sig .tc := ⟨.hbm, 176, rfl⟩
abbrev main_v106 : Ref sig .tc := ⟨.hbm, 177, rfl⟩
abbrev main_call2_call0_c : Ref sig .tc := ⟨.hbm, 178, rfl⟩
abbrev main_call2_call0_v0 : Ref sig .tc := ⟨.hbm, 179, rfl⟩
abbrev main_v107 : Ref sig .tc := ⟨.hbm, 180, rfl⟩
abbrev main_c_16 : Ref sig .tc := ⟨.hbm, 181, rfl⟩
abbrev main_v108 : Ref sig .tc := ⟨.hbm, 182, rfl⟩
abbrev main_v109 : Ref sig .tc := ⟨.hbm, 183, rfl⟩
abbrev main_c_17 : Ref sig .tc := ⟨.hbm, 184, rfl⟩
abbrev main_call3_v0 : Ref sig .tc := ⟨.hbm, 185, rfl⟩
abbrev main_call3_v1 : Ref sig .tc := ⟨.hbm, 186, rfl⟩
abbrev main_v110 : Ref sig .tc := ⟨.hbm, 187, rfl⟩
abbrev main_cst_18 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_c_19 : Ref sig .tc := ⟨.hbm, 194, rfl⟩
abbrev main_v116 : Ref sig .tc := ⟨.hbm, 195, rfl⟩
abbrev main_v117 : Ref sig .tc := ⟨.hbm, 196, rfl⟩
abbrev main_c_20 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_c_21 : Ref sig .tc := ⟨.hbm, 201, rfl⟩
abbrev main_v121 : Ref sig .tc := ⟨.hbm, 202, rfl⟩
abbrev main_v122 : Ref sig .tc := ⟨.hbm, 203, rfl⟩
abbrev main_c_22 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_c_23 : Ref sig .tc := ⟨.hbm, 208, rfl⟩
abbrev main_v126 : Ref sig .tc := ⟨.hbm, 209, rfl⟩
abbrev main_v127 : Ref sig .tc := ⟨.hbm, 210, rfl⟩
abbrev main_c_24 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_cst_25 : Ref sig .tc := ⟨.hbm, 222, rfl⟩
abbrev main_v138 : Ref sig .tc := ⟨.hbm, 223, rfl⟩
abbrev main_v139 : Ref sig .tc := ⟨.hbm, 224, rfl⟩

abbrev nD : Nat := 1
abbrev τ : Topo := Topo.v7x

variable {F : FTy → Type} [FloatOps F]

abbrev main_while0_count : Scf.Loop 32 := ⟨0#32, 200#32, 1#32⟩
-- ==== Proof.KOpen.lean ====
/- The kernel's block at one grid point, opened: what the body stores as a function of the three blocks
   it loads — the selection loop's fold, the one-hot gathers, the suppression loop over the rows of the
   overlap matrix kept in scratch, and the compaction. -/
module

public import proofs.«01_k».proof.Proof.Gen.KernelIdeal.Frame
public import Idealize.ShloMosaic.Lib.Pipeline.Value
public import Idealize.ShloMosaic.Lib.Pointwise

@[expose] public section

set_option maxRecDepth 16384
noncomputable section
namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ)

theorem z4 : (![0, 0, 0, 0] : Fin 4 → ℕ) = fun _ => 0 := by decide
theorem z3 : (![0, 0, 0] : Fin 3 → ℕ) = fun _ => 0 := by decide
theorem z2 : (![0, 0] : Fin 2 → ℕ) = fun _ => 0 := by decide

/-- The suppression loop's carried row after `k` trips, over the overlap matrix `W`. -/
def nmsK (W : FVec Ideal S256x256 .f32) (init : FVec Ideal S1x256 .f32) : ℕ → FVec Ideal S1x256 .f32
  | 0 => init
  | k + 1 => if h : k < k0_t2_loop.trips then
      k0_pay42 k0_pay13 ⟨k, h⟩ (nmsK W init k) (View.ld W (Rect.unit (s := S256x256) (k0_off1 ⟨k, h⟩) S1x256.size (k0_off1_inb ⟨k, h⟩)))
    else nmsK W init k

/-- A load from the scratch buffer holding `W` whole reads `W`. -/
theorem read_scratch (W : FVec Ideal S256x256 .f32) (R : Rect S256x256) :
    View.readAt (Elt Ideal) (View.whole cc0_scratch0) R.toLoadRect
      ((View.whole cc0_scratch0).writes (Elt Ideal) (View.whole cc0_scratch0).junk
            [⟨Rect.unit ![0, 0] ![256, 256] inb_S256x256_S256x256_0_0, W⟩]) = View.ld W R := by
  have hcov : ∀ y : S256x256.Idx, ∃ p ∈ ([⟨Rect.unit ![0, 0] ![256, 256] inb_S256x256_S256x256_0_0, W⟩] : List (View.Piece (Elt Ideal) S256x256 .f32)), y ∈ p.1.set :=
    fun y => ⟨_, List.mem_singleton_self _, View.mem_set_unit_zero (S := S256x256) z2 inb_S256x256_S256x256_0_0 y⟩
  rw [View.readAt_eq_ld]
  congr 1
  rw [View.read_writes_eq_canon _ _ _ hcov]
  exact View.canon_unit_zero (S := S256x256) (Val := Elt Ideal) (e := .f32) z2 inb_S256x256_S256x256_0_0 W

set_option maxHeartbeats 1000000 in
/-- The run's recursion is `nmsK`, the scratch buffer holding `W` whole. -/
theorem st_eq (c : Dev nD) (i : grid0.Coords) (arg2 : Memref sig .tc .vmem S1x1x160x128 .f32) (harg2 : arg2.IsWhole)
    (arg3 : Memref sig .tc .vmem S1x4x160x128 .f32) (harg3 : arg3.IsWhole) (arg4 : Memref sig .tc .vmem S4x160x128 .f32) (harg4 : arg4.IsWhole)
    (arg5 : Memref sig .tc .vmem S1x1x8x256 .f32) (harg5 : arg5.IsWhole) (h6 : scM0_0.IsWhole) (v v' : FVec Ideal S1x256 .f32) (v71 : FVec Ideal S256x256 .f32)
    (W : FVec Ideal S256x256 .f32) (init : FVec Ideal S1x256 .f32) (k : ℕ) :
    st_k0_t2 (F := Ideal) Variants.none c none i arg2 harg2 arg3 harg3 arg4 harg4 arg5 harg5 scM0_0 h6 k0_pay13 v v71 v'
      ((View.whole cc0_scratch0).writes (Elt Ideal) (View.whole cc0_scratch0).junk
            [⟨Rect.unit ![0, 0] ![256, 256] inb_S256x256_S256x256_0_0, W⟩]) init k = nmsK W init k := by
  induction k with
  | zero => rfl
  | succ k ih =>
    by_cases h : k < k0_t2_loop.trips
    · have h1 := st_k0_t2_succ (F := Ideal) Variants.none c none i arg2 harg2 arg3 harg3 arg4 harg4 arg5 harg5 scM0_0 h6 k0_pay13 v v71 v'
        ((View.whole cc0_scratch0).writes (Elt Ideal) (View.whole cc0_scratch0).junk
            [⟨Rect.unit ![0, 0] ![256, 256] inb_S256x256_S256x256_0_0, W⟩]) init ⟨k, h⟩
      refine h1.trans ?_
      dsimp only
      rw [ih, nmsK, dif_pos h]
      unfold tripR_k0_t2 trip_k0_t2
      dsimp only
      sl_unfold_words
      exact congrArg (k0_pay42 k0_pay13 ⟨k, h⟩ (nmsK W init k)) (read_scratch W _)
    · rw [st_k0_t2.eq_2, nmsK, dif_neg h, ← ih]
      unfold st_k0_t2Step
      rw [dif_neg h]

/-- The selection loop's fold over the scores block. -/
def T1 (x0 : FVec Ideal S1x1x160x128 .f32) : FVec Ideal S160x128 .f32 × FVec Ideal S1x256 .f32 × FVec Ideal S1x256 .f32 :=
  Scf.fold (fun (a : Fin k0_t1_loop.trips) a_1 => (k0_pay21 a_1.1, k0_pay19 a a_1.1 a_1.2.1, k0_pay20 a a_1.1 a_1.2.2)) (k0_pay11 (F := Ideal) x0, k0_pay15, k0_pay14)

/-- A candidate column `256 × 1` gathered from a decoded plane `d` at the selected places `jr`. -/
def gat (d : FVec Ideal S160x128 .f32) (jr : FVec Ideal S1x256 .f32) : FVec Ideal S256x1 .f32 :=
  k0_pay31 d (k0_pay25 jr) k0_pay26 k0_pay27 (k0_pay28 jr)

/-- The same candidates as a row `1 × 256`. -/
def gatR (d : FVec Ideal S160x128 .f32) (jr : FVec Ideal S1x256 .f32) : FVec Ideal S1x256 .f32 :=
  k0_pay35 d k0_pay22 (k0_pay25 jr) k0_pay26 k0_pay27 (k0_pay28 jr)

/-- The overlap matrix from the four candidate planes. -/
def iouK (a b c d : FVec Ideal S160x128 .f32) (jr : FVec Ideal S1x256 .f32) : FVec Ideal S256x256 .f32 :=
  k0_pay40 (gat a jr) (gat b jr) (gat c jr) (gat d jr) (gatR a jr) (gatR b jr) (gatR c jr) (gatR d jr) (subf (gatR c jr) (gatR a jr))

/-- The stored block from the selected values `v`, places `jr`, overlap matrix and coordinate rows. -/
def outK (a b c d : FVec Ideal S160x128 .f32) (v jr : FVec Ideal S1x256 .f32) : FVec Ideal S1x1x8x256 .f32 :=
  k0_pay47 k0_pay22 (gatR a jr) (gatR b jr) (gatR c jr) (gatR d jr)
    (k0_pay43 (nmsK (iouK a b c d jr) (k0_pay41 v) k0_t2_loop.trips))
    (k0_pay44 k0_pay13 k0_pay22 (nmsK (iouK a b c d jr) (k0_pay41 v) k0_t2_loop.trips))
    (k0_pay45 k0_pay13 v k0_pay22 (nmsK (iouK a b c d jr) (k0_pay41 v) k0_t2_loop.trips)) k0_pay46

/-- The decoded planes of a block. -/
def dx1 (x1 : FVec Ideal S1x4x160x128 .f32) (x2 : FVec Ideal S4x160x128 .f32) : FVec Ideal S160x128 .f32 := k0_pay6 x1 x2
def dy1 (x1 : FVec Ideal S1x4x160x128 .f32) (x2 : FVec Ideal S4x160x128 .f32) : FVec Ideal S160x128 .f32 := k0_pay8 (k0_pay3 x1 x2) (k0_pay7 x1 x2)
def dx2 (x1 : FVec Ideal S1x4x160x128 .f32) (x2 : FVec Ideal S4x160x128 .f32) : FVec Ideal S160x128 .f32 := k0_pay9 (k0_pay4 x1 x2) (k0_pay6 x1 x2)
def dy2 (x1 : FVec Ideal S1x4x160x128 .f32) (x2 : FVec Ideal S4x160x128 .f32) : FVec Ideal S160x128 .f32 := k0_pay10 (k0_pay3 x1 x2) (k0_pay5 x1 x2) (k0_pay7 x1 x2)

set_option maxHeartbeats 1000000 in
/-- THE BLOCK the body stores at a grid point, of the three blocks it loads. -/
theorem outs_open (c : Dev nD) (t : Fin cfg0.N) : outsAt0 m c t =
    outK (dx1 (iblk m c 1 t) (iblk m c 2 t)) (dy1 (iblk m c 1 t) (iblk m c 2 t)) (dx2 (iblk m c 1 t) (iblk m c 2 t)) (dy2 (iblk m c 1 t) (iblk m c 2 t))
      (T1 (iblk m c 0 t)).2.1 (T1 (iblk m c 0 t)).2.2 := by
  conv_lhs =>
    unfold outsAt0 out0_A_3
    rw [View.read_writes_eq_canon _ _ _ (cover0_A_3 c _ _ _ _ _ _ _ _ _ _ _ _ _ _)]
    unfold kernelRun0_A
  dsimp only
  sl_unfold_words
  simp only [View.readAt_eq_ld, (hs0_0 t).read_unread, (hs0_1 t).read_unread, (hs0_2 t).read_unread]
  simp only [View.ld_unit_zero (S := S1x1x160x128) z4, View.ld_unit_zero (S := S1x4x160x128) z4, View.ld_unit_zero (S := S4x160x128) z3]
  rw [View.canon_unit_zero (S := S1x1x8x256) z4]
  generalize hT : Scf.fold (fun a a_1 => (k0_pay21 a_1.1, k0_pay19 a a_1.1 a_1.2.1, k0_pay20 a a_1.1 a_1.2.2)) (k0_pay11 (F := Ideal) (iblk m c 0 t), k0_pay15, k0_pay14) = T
  have hT' : T1 (iblk m c 0 t) = T := hT
  rw [hT']
  have hst := fun W => st_eq c (grid0.coords t) (ms0_0 t) (hs0_0 t) (ms0_1 t) (hs0_1 t) (ms0_2 t) (hs0_2 t) (ms0_3 t) (hs0_3 t)
    (Memref.isWhole_whole _) T.2.1 (k0_pay41 T.2.1) k0_pay22 W (k0_pay41 T.2.1) (Scf.trips (0#32) (Scalar.addi 0#32 200#32) 1#32)
  rw [hst]
  rfl

end Cert.KernelIdeal.Val
end
-- ==== Proof.Select.lean ====
/- The selection of the highest scores, as mathematics: a stable descending sort of a finite family of
   extended reals, and the loop that takes the maximum, records the first place it is attained at, and
   erases that place. Both give the same values, and the same places wherever the value is not `⊥`. -/
module

public import Idealize.ShloMosaic.Lib.SortFacts
public import Mathlib.Data.EReal.Basic

@[expose] public section

namespace Cert.Det

open Idealize.ShloMosaic

/-- Entry `a` comes before entry `b` in the descending order with ties broken by position. -/
def Before (ms : ℕ → EReal) (a b : ℕ) : Prop := ms b < ms a ∨ (ms a = ms b ∧ a < b)

/-- Inserting an element that precedes (by position) all of a list ordered by `Before` keeps it ordered. -/
theorem pairwise_insert {n : ℕ} (ms : ℕ → EReal) (B : Fin n → Fin n → Bool) (hB : ∀ a b, B a b = true ↔ ms b < ms a)
    (a : Fin n) (l : List (Fin n)) (ha : ∀ b ∈ l, a < b) (hl : l.Pairwise fun x y : Fin n => Before ms x y) :
    (insertBefore B a l).Pairwise fun x y : Fin n => Before ms x y := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore B a l).mem_iff.mp hc) with rfl | hc'
      · exact Or.inl ((hB _ _).1 h)
      · exact hl.1 c hc'
    · rename_i h
      have hba : ms b ≤ ms a := not_lt.1 fun h' => h ((hB _ _).2 h')
      have hab : Before ms a b := by
        rcases hba.lt_or_eq with h1 | h1
        · exact Or.inl h1
        · exact Or.inr ⟨h1.symm, ha b List.mem_cons_self⟩
      refine List.pairwise_cons.mpr ⟨fun c hc => ?_, List.pairwise_cons.mpr hl⟩
      rcases List.mem_cons.mp hc with rfl | hc'
      · exact hab
      · have hac := ha c (List.mem_cons_of_mem _ hc')
        have hbc : ms c ≤ ms b := by
          rcases hl.1 c hc' with h1 | h1
          · exact h1.le
          · exact h1.1.symm.le
        rcases (hbc.trans hba).lt_or_eq with h1 | h1
        · exact Or.inl h1
        · exact Or.inr ⟨h1.symm, hac⟩

/-- The stable sort of an increasing list of positions is ordered by `Before`. -/
theorem pairwise_sort {n : ℕ} (ms : ℕ → EReal) (B : Fin n → Fin n → Bool) (hB : ∀ a b, B a b = true ↔ ms b < ms a)
    (l : List (Fin n)) (hl : l.Pairwise (· < ·)) : (stableSort B l).Pairwise fun x y : Fin n => Before ms x y := by
  induction l with
  | nil => exact List.Pairwise.nil
  | cons a l ih =>
    rw [List.pairwise_cons] at hl
    unfold stableSort
    exact pairwise_insert ms B hB a _ (fun b hb => hl.1 b ((perm_stableSort B l).mem_iff.1 hb)) (ih hl.2)

/-- The sorting permutation lists the positions in the order `Before`. -/
theorem sorted_before {n : ℕ} (ms : ℕ → EReal) (B : Fin n → Fin n → Bool) (hB : ∀ a b, B a b = true ↔ ms b < ms a)
    (i j : Fin n) (hij : i < j) : Before ms (sortedFrom B i) (sortedFrom B j) := by
  have hp : ∀ a b : Fin (sortPositions n B).length, a < b →
      Before ms ((sortPositions n B).get a) ((sortPositions n B).get b) :=
    List.pairwise_iff_get.mp (pairwise_sort ms B hB (List.finRange n) (List.pairwise_lt_finRange n))
  unfold sortedFrom
  exact hp _ _ (by simp only [Fin.lt_def, Fin.val_cast]; exact hij)

/-- The sorted order as a function on numbers: `σ q` is the position whose entry lands at `q`. -/
structure Sorted (n : ℕ) (ms : ℕ → EReal) (σ : ℕ → ℕ) : Prop where
  lt : ∀ q, q < n → σ q < n
  inj : ∀ q q', q < n → q' < n → σ q = σ q' → q = q'
  before : ∀ q q', q' < n → q < q' → Before ms (σ q) (σ q')

/-- The stable sort gives a sorted order. -/
theorem sorted_of_sort {n : ℕ} (ms : ℕ → EReal) (B : Fin n → Fin n → Bool) (hB : ∀ a b, B a b = true ↔ ms b < ms a) :
    Sorted n ms (fun q => if h : q < n then sortedFrom B ⟨q, h⟩ else 0) where
  lt q hq := by rw [dif_pos hq]; exact (sortedFrom B ⟨q, hq⟩).isLt
  inj q q' hq hq' h := by
    rw [dif_pos hq, dif_pos hq'] at h
    have := sortedFrom_injective B (Fin.ext h)
    exact congrArg Fin.val this
  before q q' hq' hqq := by
    have hq : q < n := hqq.trans hq'
    rw [dif_pos hq, dif_pos hq']
    exact sorted_before ms B hB ⟨q, hq⟩ ⟨q', hq'⟩ hqq

/-- Position `p` is still to be taken after `k` selections. -/
def Live (n : ℕ) (σ : ℕ → ℕ) (k p : ℕ) : Prop := ∃ q, k ≤ q ∧ q < n ∧ σ q = p

open Classical in
/-- The scores left after `k` selections: the taken positions, and those past the data, hold `⊥`. -/
noncomputable def left (n : ℕ) (ms : ℕ → EReal) (σ : ℕ → ℕ) (k p : ℕ) : EReal := if Live n σ k p then ms p else ⊥

/-- ONE SELECTION. On the scores left after `k` selections (read over positions `enc i`, which cover the data) the
    maximum is the `k`-th sorted value; if it is not `⊥` the first place attaining it is the `k`-th sorted position;
    and erasing that place gives the scores left after `k + 1` selections. -/
theorem select_step {ι : Type} (enc : ι → ℕ) {n : ℕ} (ms : ℕ → EReal) (σ : ℕ → ℕ) (hσ : Sorted n ms σ)
    (hcov : ∀ p, p < n → ∃ i, enc i = p) (k : ℕ) (hk : k < n) (s : ι → EReal) (hs : ∀ i, s i = left n ms σ k (enc i))
    (m : EReal) (hle : ∀ i, s i ≤ m) (hatt : ∃ i, s i = m) (j : ℕ) (hj : ∃ i, s i = m ∧ enc i = j)
    (hmin : ∀ i, s i = m → j ≤ enc i) :
    m = ms (σ k) ∧ (m ≠ ⊥ → j = σ k) ∧ ∀ i, (if enc i = j then ⊥ else s i) = left n ms σ (k + 1) (enc i) := by
  classical
  obtain ⟨iσ, hiσ⟩ := hcov (σ k) (hσ.lt k hk)
  have hlive : Live n σ k (σ k) := ⟨k, le_rfl, hk, rfl⟩
  have hsσ : s iσ = ms (σ k) := by rw [hs, hiσ, left, if_pos hlive]
  have hge : ∀ q, k ≤ q → q < n → ms (σ q) ≤ ms (σ k) := by
    intro q hq hqn
    rcases hq.lt_or_eq with h | h
    · rcases hσ.before k q hqn h with h1 | h1
      · exact h1.le
      · exact h1.1.symm.le
    · rw [h]
  have hm : m = ms (σ k) := by
    apply le_antisymm
    · obtain ⟨i, hi⟩ := hatt
      rw [← hi, hs, left]
      split
      · rename_i h
        obtain ⟨q, hq, hqn, hqp⟩ := h
        rw [← hqp]; exact hge q hq hqn
      · exact bot_le
    · rw [← hsσ]; exact hle iσ
  have hjk : m ≠ ⊥ → j = σ k := by
    intro hb
    obtain ⟨i, hi, hij⟩ := hj
    have h1 : j ≤ σ k := by rw [← hiσ]; exact hmin iσ (by rw [hsσ, hm])
    have h2 : Live n σ k (enc i) := by
      by_contra h
      rw [hs, left, if_neg h] at hi
      exact hb hi.symm
    rw [hs, left, if_pos h2] at hi
    obtain ⟨q, hq, hqn, hqp⟩ := h2
    rcases hq.lt_or_eq with h | h
    · rcases hσ.before k q hqn h with h3 | h3
      · rw [hqp, hi, hm] at h3; exact absurd h3 (lt_irrefl _)
      · have := h3.2
        rw [hqp, hij] at this
        omega
    · rw [← hij, ← hqp, h]
  refine ⟨hm, hjk, fun i => ?_⟩
  by_cases hb : m = ⊥
  · have h0 : s i = ⊥ := le_bot_iff.1 (hb ▸ hle i)
    have h1 : left n ms σ (k + 1) (enc i) = ⊥ := by
      rw [left]
      split
      · rename_i h
        obtain ⟨q, hq, hqn, hqp⟩ := h
        have h2 := hs i
        rw [h0, left, if_pos ⟨q, by omega, hqn, hqp⟩] at h2
        exact h2.symm
      · rfl
    rw [h0, h1, ite_self]
  · rw [hjk hb]
    by_cases h : enc i = σ k
    · rw [if_pos h, left, if_neg]
      rintro ⟨q, hq, hqn, hqp⟩
      have := hσ.inj q k hqn hk (hqp.trans h)
      omega
    · rw [if_neg h, hs, left, left]
      congr 1
      apply propext
      constructor
      · rintro ⟨q, hq, hqn, hqp⟩
        rcases hq.lt_or_eq with h1 | h1
        · exact ⟨q, h1, hqn, hqp⟩
        · exact absurd (by rw [← hqp, h1]) h
      · rintro ⟨q, hq, hqn, hqp⟩
        exact ⟨q, by omega, hqn, hqp⟩

/-- Before any selection the scores left are the scores, at the positions of the data. -/
theorem left_zero {n : ℕ} (ms : ℕ → EReal) (σ : ℕ → ℕ) (hσ : Sorted n ms σ) (p : ℕ) :
    left n ms σ 0 p = if p < n then ms p else ⊥ := by
  classical
  rw [left]
  congr 1
  apply propext
  constructor
  · rintro ⟨q, -, hqn, hqp⟩; rw [← hqp]; exact hσ.lt q hqn
  · intro hp
    have hinj : Function.Injective (fun q : Fin n => (⟨σ q, hσ.lt q q.isLt⟩ : Fin n)) := fun a b h =>
      Fin.ext (hσ.inj a b a.isLt b.isLt (congrArg Fin.val h))
    obtain ⟨q, hq⟩ := Finite.injective_iff_surjective.1 hinj ⟨p, hp⟩
    exact ⟨q, Nat.zero_le _, q.isLt, congrArg Fin.val hq⟩

end Cert.Det

end
-- ==== Proof.KNum.lean ====
module

public import proofs.«01_k».proof.Proof.Select
public import Idealize.ShloMosaic.Lib.Pipeline.Value
public import Idealize.ShloMosaic.Lib.Pointwise
public import Idealize.ShloMosaic.Lib.Exec.Context
public import Idealize.ShloMosaic.Lib.IdealHost

@[expose] public section

noncomputable section
namespace Cert.Det

open Idealize.ShloMosaic Idealize.ShloMosaic.TcCoe Idealize.SL.Sem

/-- A natural number as an extended real. -/
def en (n : ℕ) : EReal := ((n : ℝ) : EReal)

/-- Two naturals are the same as extended reals just when they are the same. -/
theorem en_inj {a b : ℕ} : en a = en b ↔ a = b := by simp [en]
/-- The order of naturals is that of their extended reals. -/
theorem en_le {a b : ℕ} : en a ≤ en b ↔ a ≤ b := by simp [en]
/-- The strict order of naturals is that of their extended reals. -/
theorem en_lt {a b : ℕ} : en a < en b ↔ a < b := by simp [en]
/-- Zero. -/
theorem en_zero : en 0 = 0 := by simp [en]
/-- One. -/
theorem en_one : en 1 = 1 := by simp [en]
/-- Sums. -/
theorem en_add (a b : ℕ) : en a + en b = en (a + b) := by simp [en]

/-- The pattern of minus infinity. -/
theorem bits_bot : Ideal.ofBits .f32 4286578688#32 = ⊥ := by
  simp [Ideal.ofBits, Ideal.ieee]
/-- The pattern of plus infinity. -/
theorem bits_top : Ideal.ofBits .f32 2139095040#32 = ⊤ := by
  simp [Ideal.ofBits, Ideal.ieee]
/-- The pattern of one thousand million, the sentinel index. -/
theorem bits_big : Ideal.ofBits .f32 1315859240#32 = en 1000000000 := by
  rw [en]; simp [Ideal.ofBits, Ideal.ieee, -EReal.coe_mul]; norm_num
/-- The pattern of one hundred and twenty-eight, the lanes of a row. -/
theorem bits_lanes : Ideal.ofBits .f32 1124073472#32 = en 128 := by
  rw [en]; simp [Ideal.ofBits, Ideal.ieee, -EReal.coe_mul]; norm_num
/-- The pattern of one half. -/
theorem bits_half : Ideal.ofBits .f32 1056964608#32 = (((1 : ℝ) / 2 : ℝ) : EReal) := by
  simp [Ideal.ofBits, Ideal.ieee, -EReal.coe_mul]; norm_num
/-- The pattern of two. -/
theorem bits_two : Ideal.ofBits .f32 0x40000000#32 = ((2 : ℝ) : EReal) := by
  simp [Ideal.ofBits, Ideal.ieee, -EReal.coe_mul]; norm_num
/-- The score threshold is positive. -/
theorem thr_pos : (0 : EReal) < Ideal.ofBits .f32 0x3C23D70A#32 := by
  have : ∃ r : ℝ, 0 < r ∧ Ideal.ofBits .f32 0x3C23D70A#32 = (r : EReal) := by
    refine ⟨(10737418 : ℝ) / 2 ^ 30, by positivity, ?_⟩
    simp [Ideal.ofBits, Ideal.ieee, -EReal.coe_mul]; norm_num
  obtain ⟨r, h, e⟩ := this
  rw [e]; exact_mod_cast h

/-- A quotient and a floor: a natural over 128, rounded down. -/
theorem floor_div (p : ℕ) : Ideal.liftRound Int.floor (Ideal.div (en p) (en 128)) = en (p / 128) := by
  rw [en, en, Ideal.div_coe (by norm_num : ((128 : ℕ) : ℝ) ≠ 0), ← EReal.coe_mul]
  show (((⌊(p : ℝ) * (1 / ((128 : ℕ) : ℝ))⌋ : ℤ) : ℝ) : EReal) = _
  rw [en]
  congr 1
  have : ⌊(p : ℝ) * (1 / ((128 : ℕ) : ℝ))⌋ = ((p / 128 : ℕ) : ℤ) := by
    rw [mul_one_div]
    rw [Int.floor_eq_iff]
    have h1 := Nat.div_add_mod p 128
    have h2 : ((128 * (p / 128) + p % 128 : ℕ) : ℝ) = (p : ℝ) := by rw [h1]
    have h3 : ((p % 128 : ℕ) : ℝ) < 128 := by exact_mod_cast Nat.mod_lt p (by norm_num)
    have h4 : (0 : ℝ) ≤ ((p % 128 : ℕ) : ℝ) := by positivity
    generalize p / 128 = q at *
    generalize p % 128 = r at *
    push_cast at h2 ⊢
    constructor
    · rw [le_div_iff₀ (by norm_num)]; linarith
    · rw [div_lt_iff₀ (by norm_num)]; linarith
  rw [this, Int.cast_natCast]

/-- The remainder, as the difference the kernel writes. -/
theorem rem_eq (p : ℕ) : en p - en 128 * en (p / 128) = en (p % 128) := by
  rw [en, en, en, ← EReal.coe_mul, ← EReal.coe_sub, en]
  congr 1
  have := Nat.div_add_mod p 128
  have h : ((128 * (p / 128) + p % 128 : ℕ) : ℝ) = (p : ℝ) := by rw [this]
  push_cast at h ⊢
  linarith

/-- A word below half the range, converted to a float, is its number. -/
theorem sitofp_nat (n : ℕ) (h : n < 2147483648) :
    FloatOps.sitofp (F := Ideal) FTy.f32 (BitVec.ofNat 32 n) = en n := by
  show ((((BitVec.ofNat 32 n).toInt : ℤ) : ℝ) : EReal) = en n
  rw [BitVec.toInt_eq_toNat_of_lt (by rw [BitVec.toNat_ofNat, Nat.mod_eq_of_lt (by omega)]; omega), BitVec.toNat_ofNat,
    Nat.mod_eq_of_lt (by omega), en]
  simp

/-- The number of a place of the score grid, as the kernel computes it. -/
theorem sitofp_place (r l : ℕ) (hr : r < 160) (hl : l < 128) :
    FloatOps.sitofp (F := Ideal) FTy.f32 (IntOp.addi (IntOp.muli (BitVec.ofNat 32 r) 128#32) (BitVec.ofNat 32 l)) = en (r * 128 + l) := by
  have : IntOp.addi (IntOp.muli (BitVec.ofNat 32 r) 128#32) (BitVec.ofNat 32 l) = BitVec.ofNat 32 (r * 128 + l) := by
    show BitVec.ofNat 32 r * BitVec.ofNat 32 128 + BitVec.ofNat 32 l = _
    rw [BitVec.ofNat_add, BitVec.ofNat_mul]
  rw [this, sitofp_nat _ (by omega)]

/-- The counter of a loop from zero in steps of one, as a float. -/
theorem iv_nat (k : ℕ) (h : k < 2147483648) : ((((Scf.iv 0#32 1#32 k).toInt : ℤ) : ℝ) : EReal) = en k := by
  rw [Scf.iv_eq_ofInt]
  have : BitVec.ofInt 32 ((0#32).toInt + (k : ℤ) * (1#32).toInt) = BitVec.ofNat 32 k := by
    simp
  rw [this]
  exact sitofp_nat k h

/-- A fold over the trips keeps an invariant. -/
theorem fold_inv {n : ℕ} {S : Type} (g : Fin n → S → S) (init : S) (P : ℕ → S → Prop) (h0 : P 0 init)
    (hs : ∀ (k : Fin n) (a : S), P k a → P (k + 1) (g k a)) : P n (Scf.fold g init) := by
  rw [Scf.fold_eq]
  induction n with
  | zero => exact h0
  | succ n ih =>
    rw [List.finRange_succ_last, List.foldl_append, List.foldl_map]
    exact hs (Fin.last n) _ (ih (fun k => g k.castSucc) (fun k a => hs k.castSucc a))

/-- The value of a greatest element that is attained, as a fold. -/
theorem fold_max_facts {ι : Type} [Fintype ι] [Nonempty ι] (f : ι → EReal) :
    (∀ i, f i ≤ Finset.univ.fold max ⊥ f) ∧ ∃ i, f i = Finset.univ.fold max ⊥ f := by
  refine ⟨fun i => (Finset.le_fold_max _).2 (Or.inr ⟨i, Finset.mem_univ _, le_rfl⟩), ?_⟩
  obtain ⟨i, hi⟩ := Finite.exists_max f
  exact ⟨i, le_antisymm ((Finset.le_fold_max _).2 (Or.inr ⟨i, Finset.mem_univ _, le_rfl⟩))
    ((Finset.fold_max_le _).2 ⟨bot_le, fun j _ => hi j⟩)⟩

/-- The value of a least element, as a fold. -/
theorem fold_min_facts {ι : Type} [Fintype ι] [Nonempty ι] (f : ι → EReal) :
    (∀ i, Finset.univ.fold min ⊤ f ≤ f i) ∧ ∃ i, f i = Finset.univ.fold min ⊤ f := by
  refine ⟨fun i => (Finset.fold_min_le _).2 (Or.inr ⟨i, Finset.mem_univ _, le_rfl⟩), ?_⟩
  obtain ⟨i, hi⟩ := Finite.exists_min f
  exact ⟨i, le_antisymm ((Finset.le_fold_min _).2 ⟨le_top, fun j _ => hi j⟩)
    ((Finset.fold_min_le _).2 (Or.inr ⟨i, Finset.mem_univ _, le_rfl⟩))⟩

end Cert.Det
-- ==== Proof.KSelA.lean ====
/- The pieces of one trip of the selection loop, read at an index. -/
module

public import proofs.«01_k».proof.Proof.KOpen
public import proofs.«01_k».proof.Proof.KNum

@[expose] public section

set_option maxRecDepth 16384
noncomputable section
namespace Cert.KernelIdeal.Val

open Idealize.ShloMosaic Idealize.ShloMosaic.TcCoe Idealize.SL.Sem
open Cert.KernelIdeal Cert.KernelIdeal.Gen Cert.Det

/-- The masked scores at a place. -/
theorem p11 (x0 : Vec Ideal S1x1x160x128 .f32) (r : Fin 160) (l : Fin 128) : k0_pay11 (F := Ideal) x0 (ix2 r l) =
    if Ideal.ofBits FTy.f32 0x3C23D70A#32 < x0 (ix4 0 0 r l) then x0 (ix4 0 0 r l) else ⊥ := by
  pointwise [k0_pay11]
  rw [bits_bot]
/-- The row of places starts at zero. -/
theorem p14 (l : Fin 256) : k0_pay14 (F := Ideal) (ix2 0 l) = en 0 := by
  rw [en_zero]
  pointwise [k0_pay14]
/-- The row of scores starts at `⊥`. -/
theorem p15 (l : Fin 256) : k0_pay15 (F := Ideal) (ix2 0 l) = ⊥ := by
  pointwise [k0_pay15]
  rw [bits_bot]
/-- The row of slot numbers. -/
theorem p13 (l : Fin 256) : k0_pay13 (F := Ideal) (ix2 0 l) = en l := by
  pointwise [k0_pay13]
  exact sitofp_nat _ (by omega)
/-- The greatest score, as a fold. -/
theorem p16 (x : FVec Ideal S160x128 .f32) : k0_pay16 x =
    Finset.fold max ⊥ (fun i : Fin 160 × Fin 128 => x (ix2 i.1 i.2)) Finset.univ := by
  pointwise [k0_pay16]
  rw [bits_bot]
/-- The least place of the greatest score, as a fold. -/
theorem p17 (x : FVec Ideal S160x128 .f32) : k0_pay17 x =
    Finset.fold min ⊤ (fun i : Fin 160 × Fin 128 =>
      if x (ix2 i.1 i.2) = k0_pay16 x then en (i.1 * 128 + i.2) else en 1000000000) Finset.univ := by
  pointwise [k0_pay17, k0_pay12]
  rw [bits_top, bits_big]
  congr 1
  funext i
  rw [sitofp_place _ _ i.1.isLt i.2.isLt]
/-- The score recorded at a trip. -/
theorem p19 (k) (hk : k.val < 2147483648) (x : FVec Ideal S160x128 .f32) (v) (l : Fin 256) : k0_pay19 k x v (ix2 0 l) =
    if l.val = k.val then k0_pay16 x else v (ix2 0 l) := by
  pointwise [k0_pay19, k0_pay18, k0_pay13]
  simp only [iv_nat _ hk, sitofp_nat l.val (by omega), en_inj]
/-- The place recorded at a trip. -/
theorem p20 (k) (hk : k.val < 2147483648) (x : FVec Ideal S160x128 .f32) (v) (l : Fin 256) : k0_pay20 k x v (ix2 0 l) =
    if l.val = k.val then k0_pay17 x else v (ix2 0 l) := by
  pointwise [k0_pay20, k0_pay18, k0_pay13]
  simp only [iv_nat _ hk, sitofp_nat l.val (by omega), en_inj]
/-- The erasure at a trip. -/
theorem p21 (x : FVec Ideal S160x128 .f32)  (r : Fin 160) (l : Fin 128) : k0_pay21 x (ix2 r l) =
    if en (r * 128 + l) = k0_pay17 x then ⊥ else x (ix2 r l) := by
  pointwise [k0_pay21, k0_pay12]
  rw [bits_bot, sitofp_place _ _ r.isLt l.isLt]

end Cert.KernelIdeal.Val
-- ==== Proof.KSel.lean ====
/- The kernel's selection loop: what the 200 trips of maximum, first place and erasure leave in the two
   rows of scores and places. -/
module

public import proofs.«01_k».proof.Proof.KSelA

@[expose] public section

set_option maxRecDepth 16384
noncomputable section
namespace Cert.KernelIdeal.Val

open Idealize.ShloMosaic Idealize.ShloMosaic.TcCoe Idealize.SL.Sem
open Cert.KernelIdeal Cert.KernelIdeal.Gen Cert.Det

/-- The number of a place. -/
def enc (i : Fin 160 × Fin 128) : ℕ := i.1.val * 128 + i.2.val

/-- The first place of the greatest score: its number, which is attained and least. -/
theorem p17_facts (x : FVec Ideal S160x128 .f32) : ∃ j : ℕ, k0_pay17 x = en j ∧ j < 20480 ∧
    (∃ i : Fin 160 × Fin 128, x (ix2 i.1 i.2) = k0_pay16 x ∧ enc i = j) ∧
    ∀ i : Fin 160 × Fin 128, x (ix2 i.1 i.2) = k0_pay16 x → j ≤ enc i := by
  have hmax := fold_max_facts (fun i : Fin 160 × Fin 128 => x (ix2 i.1 i.2))
  rw [← p16] at hmax
  obtain ⟨-, i0, hi0⟩ := hmax
  have hmin := fold_min_facts (fun i : Fin 160 × Fin 128 =>
      if x (ix2 i.1 i.2) = k0_pay16 x then en (i.1 * 128 + i.2) else en 1000000000)
  rw [← p17] at hmin
  obtain ⟨hle, i, hi⟩ := hmin
  have hlt : ∀ i : Fin 160 × Fin 128, enc i < 20480 := fun i => by
    have := i.1.isLt; have := i.2.isLt; unfold enc; omega
  by_cases hx : x (ix2 i.1 i.2) = k0_pay16 x
  · simp only [if_pos hx] at hi
    refine ⟨enc i, hi.symm, hlt i, ⟨i, hx, rfl⟩, fun i' hi' => ?_⟩
    have := hle i'
    simp only [if_pos hi'] at this
    rw [← hi, en_le] at this
    exact this
  · exfalso
    simp only [if_neg hx] at hi
    have := hle i0
    have hi0' : x (ix2 i0.1 i0.2) = k0_pay16 x := hi0
    simp only [if_pos hi0'] at this
    rw [← hi, en_le] at this
    have := hlt i0
    unfold enc at this
    omega

/-- The number of trips of the selection loop. -/
theorem trips1 : k0_t1_loop.trips = 200 := by decide

/-- What the selection loop leaves: slot `q` below 200 holds the `q`-th sorted masked score, the others `⊥`; and every
    slot holds a place of the grid, the sorted position wherever the score is not `⊥`. -/
theorem sel_facts (x0 : Vec Ideal S1x1x160x128 .f32) (sc : ℕ → EReal) (σ : ℕ → ℕ)
    (hx : ∀ (r : Fin 160) (l : Fin 128), x0 (ix4 0 0 r l) = sc (r * 128 + l))
    (hz : ∀ p, 20000 ≤ p → sc p = 0)
    (ms : ℕ → EReal) (hms : ∀ p, ms p = if Ideal.ofBits FTy.f32 0x3C23D70A#32 < sc p then sc p else ⊥)
    (hσ : Sorted 20000 ms σ) :
    (∀ q : Fin 256, (T1 x0).2.1 (ix2 0 q) = if q.val < 200 then ms (σ q) else ⊥) ∧
    ∃ jn : ℕ → ℕ, ∀ q : Fin 256, (T1 x0).2.2 (ix2 0 q) = en (jn q) ∧ jn q < 20480 ∧
      ((T1 x0).2.1 (ix2 0 q) ≠ ⊥ → jn q = σ q) := by
  have hcov : ∀ p, p < 20000 → ∃ i, enc i = p := fun p hp =>
    ⟨(⟨p / 128, by omega⟩, ⟨p % 128, by omega⟩), by show p / 128 * 128 + p % 128 = p; omega⟩
  let P : ℕ → FVec Ideal S160x128 .f32 × FVec Ideal S1x256 .f32 × FVec Ideal S1x256 .f32 → Prop := fun k a =>
    (∀ i : Fin 160 × Fin 128, a.1 (ix2 i.1 i.2) = left 20000 ms σ k (enc i)) ∧
    (∀ q : Fin 256, a.2.1 (ix2 0 q) = if q.val < k then ms (σ q) else ⊥) ∧
    ∃ jn : ℕ → ℕ, ∀ q : Fin 256, a.2.2 (ix2 0 q) = en (jn q) ∧ jn q < 20480 ∧ (a.2.1 (ix2 0 q) ≠ ⊥ → jn q = σ q)
  have key : P k0_t1_loop.trips (T1 x0) := by
    unfold T1
    refine fold_inv (S := FVec Ideal S160x128 .f32 × FVec Ideal S1x256 .f32 × FVec Ideal S1x256 .f32) _ _ P ?_ ?_
    · refine ⟨fun i => ?_, fun q => ?_, fun _ => 0, fun q => ⟨p14 q, by norm_num, fun h => absurd (p15 q) h⟩⟩
      · show k0_pay11 (F := Ideal) x0 (ix2 i.1 i.2) = _
        rw [p11, hx, left_zero ms σ hσ, ← hms]
        by_cases h : enc i < 20000
        · rw [if_pos h]; rfl
        · rw [if_neg h]
          show ms (enc i) = ⊥
          rw [hms, hz _ (by omega), if_neg (not_lt.2 thr_pos.le)]
      · rw [if_neg (by omega)]; exact p15 q
    · rintro k ⟨s, v, j⟩ ⟨h1, h2, jn, h3⟩
      simp only at h1 h2 h3
      have hk : k.val < 200 := trips1 ▸ k.isLt
      have hk' : k.val < 2147483648 := by omega
      obtain ⟨hle, hatt⟩ := fold_max_facts (fun i : Fin 160 × Fin 128 => s (ix2 i.1 i.2))
      rw [← p16] at hle hatt
      obtain ⟨jj, e17, hjj, hj, hmin⟩ := p17_facts s
      obtain ⟨m1, m2, m3⟩ := select_step enc ms σ hσ hcov k (by omega) (fun i => s (ix2 i.1 i.2)) h1 _ hle hatt jj hj hmin
      show P (k.val + 1) (k0_pay21 s, k0_pay19 k s v, k0_pay20 k s j)
      refine ⟨fun i => ?_, fun q => ?_, fun q => if q = k.val then jj else jn q, fun q => ⟨?_, ?_, ?_⟩⟩
      · dsimp only
        rw [p21, e17, ← m3 i]
        exact if_congr en_inj rfl rfl
      · dsimp only
        rw [p19 k hk']
        by_cases hq : q.val = k.val
        · rw [if_pos hq, if_pos (by omega), m1, hq]
        · rw [if_neg hq, h2]
          exact if_congr (by omega) rfl rfl
      · dsimp only
        rw [p20 k hk']
        by_cases hq : q.val = k.val
        · simp only [if_pos hq]; exact e17
        · simp only [if_neg hq]; exact (h3 q).1
      · by_cases hq : q.val = k.val
        · simp only [if_pos hq]; exact hjj
        · simp only [if_neg hq]; exact (h3 q).2.1
      · dsimp only
        rw [p19 k hk']
        by_cases hq : q.val = k.val
        · simp only [if_pos hq]; intro h; rw [m2 h, hq]
        · simp only [if_neg hq]; exact (h3 q).2.2
  obtain ⟨-, k2, k3⟩ := key
  exact ⟨fun q => by rw [k2, trips1], k3⟩

end Cert.KernelIdeal.Val
-- ==== Proof.Spec.lean ====
/- The suppression and the compaction, as mathematics over slot numbers. -/
module

public import proofs.«01_k».proof.Proof.KNum

@[expose] public section

noncomputable section
namespace Cert.Det

open Idealize.ShloMosaic

/-- Who is still alive after the first `k` slots have suppressed what they overlap. -/
def alive (valid : ℕ → Prop) (ov : ℕ → ℕ → Prop) : ℕ → ℕ → Prop
  | 0, q => valid q
  | k + 1, q => alive valid ov k q ∧ ¬ (alive valid ov k k ∧ ov k q ∧ k < q)

/-- Only valid slots are ever alive. -/
theorem alive_valid {valid : ℕ → Prop} {ov : ℕ → ℕ → Prop} {k q : ℕ} (h : alive valid ov k q) : valid q := by
  induction k with
  | zero => exact h
  | succ k ih => exact ih h.1

/-- The overlaps matter only between valid slots. -/
theorem alive_congr {valid valid' : ℕ → Prop} {ov ov' : ℕ → ℕ → Prop} (hv : ∀ q, valid q ↔ valid' q)
    (ho : ∀ k q, valid k → valid q → (ov k q ↔ ov' k q)) (k q : ℕ) : alive valid ov k q ↔ alive valid' ov' k q := by
  induction k generalizing q with
  | zero => exact hv q
  | succ k ih =>
    simp only [alive, ← ih]
    by_cases hq : alive valid ov k q
    · by_cases hk : alive valid ov k k
      · rw [ho k q (alive_valid hk) (alive_valid hq)]
      · simp [hk]
    · simp [hq]

open Classical in
/-- How many are alive up to and including slot `q`. -/
def cnt (A : ℕ → Prop) (q : ℕ) : ℕ := ((Finset.range (q + 1)).filter A).card

/-- The count depends on who is alive only. -/
theorem cnt_congr {A A' : ℕ → Prop} (h : ∀ q, A q ↔ A' q) (q : ℕ) : cnt A q = cnt A' q := by
  have : A = A' := funext fun q => propext (h q)
  rw [this]

/-- Two alive slots with one count are one slot. -/
theorem cnt_inj {A : ℕ → Prop} {k k' : ℕ} (hk : A k) (hk' : A k') (h : cnt A k = cnt A k') : k = k' := by
  classical
  have aux : ∀ a b, A b → a < b → cnt A a < cnt A b := fun a b hb hab => by
    refine Finset.card_lt_card ⟨Finset.filter_subset_filter _ (Finset.range_subset_range.2 (by omega)), fun hs => ?_⟩
    have := hs (Finset.mem_filter.2 ⟨Finset.mem_range.2 (Nat.lt_succ_self b), hb⟩)
    have := Finset.mem_range.1 (Finset.mem_filter.1 this).1
    omega
  rcases lt_trichotomy k k' with hl | hl | hl
  · exact absurd h (aux _ _ hk' hl).ne
  · exact hl
  · exact absurd h (aux _ _ hk hl).ne'

/-- An alive slot is counted. -/
theorem cnt_pos {A : ℕ → Prop} {k : ℕ} (hk : A k) : 0 < cnt A k := by
  classical
  exact Finset.card_pos.2 ⟨k, Finset.mem_filter.2 ⟨Finset.mem_range.2 (Nat.lt_succ_self k), hk⟩⟩

/-- There are no more counted than slots. -/
theorem cnt_le (A : ℕ → Prop) (q : ℕ) : cnt A q ≤ q + 1 := by
  classical
  exact (Finset.card_filter_le _ _).trans (by simp)

/-- The count as a sum over slots. -/
theorem cnt_sum (A : ℕ → Prop) (n : ℕ) (q : Fin n) (f : Fin n → ℕ)
    (hf : ∀ x : Fin n, (x.val ≤ q.val ∧ A x → f x = 1) ∧ (¬ (x.val ≤ q.val ∧ A x) → f x = 0)) : ∑ x, f x = cnt A q := by
  classical
  have hq := q.isLt
  rw [cnt, Finset.card_filter]
  have e1 : ∑ x, f x = ∑ x ∈ Finset.range n, if x ≤ q.val ∧ A x then 1 else 0 := by
    rw [Finset.sum_range]; exact Finset.sum_congr rfl fun x _ => by
      split
      · next h => exact (hf x).1 h
      · next h => exact (hf x).2 h
  rw [e1, ← Finset.sum_subset (s₁ := Finset.range (q.val + 1)) (Finset.range_subset_range.2 (by omega))
    (fun x _ hx => if_neg fun h => hx (Finset.mem_range.2 (by omega)))]
  exact Finset.sum_congr rfl fun x hx => by
    have := Finset.mem_range.1 hx
    exact if_congr (by simp; omega) rfl rfl

/-- `x` is what the compaction puts at place `p`: the entry of the alive slot counted `p + 1`, or zero if there is
    none. -/
structure IsOut (A : ℕ → Prop) (val : ℕ → EReal) (p : ℕ) (x : EReal) : Prop where
  hit : ∀ k, A k → cnt A k = p + 1 → x = val k
  miss : (∀ k, A k → cnt A k ≠ p + 1) → x = 0

/-- The compaction is a function of who is alive and of their entries. -/
theorem IsOut.unique {A A' : ℕ → Prop} {val val' : ℕ → EReal} {p : ℕ} {x x' : EReal} (hA : ∀ q, A q ↔ A' q)
    (hv : ∀ q, A q → val q = val' q) (h : IsOut A val p x) (h' : IsOut A' val' p x') : x = x' := by
  have hc := cnt_congr hA
  by_cases hk : ∃ k, A k ∧ cnt A k = p + 1
  · obtain ⟨k, hk, hck⟩ := hk
    rw [h.hit k hk hck, h'.hit k ((hA k).1 hk) (by rw [← hc]; exact hck), hv k hk]
  · push Not at hk
    rw [h.miss hk, h'.miss fun k hk' => by rw [← hc]; exact hk k ((hA k).2 hk')]

/-- The overlap of two boxes, corner by corner. -/
def iouF (a b c d a' b' c' d' : EReal) : EReal :=
  Ideal.div (max (min c c' - max a a') 0 * max (min d d' - max b b') 0)
    (max (max (c - a) 0 * max (d - b) 0 + max (c' - a') 0 * max (d' - b') 0
      - max (min c c' - max a a') 0 * max (min d d' - max b b') 0) (Ideal.ofBits FTy.f32 730643660#32))

/-- A box's corner decoded: `lo` are the four offsets of a prior and `pr` its four numbers. -/
def dec (lo pr : ℕ → ℕ → EReal) (f p : ℕ) : EReal :=
  let ctr := fun a => pr a p + lo a p * Ideal.ofBits FTy.f32 1036831949#32 * pr (a + 2) p
  let ext := fun a => pr (a + 2) p * Ideal.exp (lo (a + 2) p * Ideal.ofBits FTy.f32 1045220557#32)
  let low := fun a => ctr a - ext a * Ideal.ofBits FTy.f32 1056964608#32
  if f = 0 then low 0 else if f = 1 then low 1 else if f = 2 then low 0 + ext 0 else low 1 + ext 1

/-- The overlap of the boxes at two positions. -/
def iouP (lo pr : ℕ → ℕ → EReal) (p p' : ℕ) : EReal :=
  iouF (dec lo pr 0 p) (dec lo pr 1 p) (dec lo pr 2 p) (dec lo pr 3 p)
    (dec lo pr 0 p') (dec lo pr 1 p') (dec lo pr 2 p') (dec lo pr 3 p')

/-- A slot is valid: one of the two hundred, its score over the threshold. -/
def validS (ms : ℕ → EReal) (σ : ℕ → ℕ) (q : ℕ) : Prop := q < 200 ∧ Ideal.ofBits FTy.f32 0x3C23D70A#32 < ms (σ q)

/-- Slot `k`'s box overlaps slot `q`'s too much. -/
def ovS (lo pr : ℕ → ℕ → EReal) (σ : ℕ → ℕ) (k q : ℕ) : Prop := Ideal.ofBits FTy.f32 1055286886#32 < iouP lo pr (σ k) (σ q)

/-- The slots kept in the end. -/
def keptS (lo pr : ℕ → ℕ → EReal) (ms : ℕ → EReal) (σ : ℕ → ℕ) : ℕ → Prop := alive (validS ms σ) (ovS lo pr σ) 200

/-- Entry `f` of a slot: its score, then its box. -/
def entS (lo pr : ℕ → ℕ → EReal) (ms : ℕ → EReal) (σ : ℕ → ℕ) (f q : ℕ) : EReal :=
  if f = 0 then ms (σ q) else dec lo pr (f - 1) (σ q)

/-- A sum against an indicator of one place, on the left. -/
theorem sum_pick_left {n : ℕ} (k : Fin n) (c : Fin n → Prop) [DecidablePred c] (hc : ∀ x, c x ↔ x = k) (f : Fin n → EReal) :
    ∑ x, (if c x then 1 else 0) * f x = f k := by
  rw [Finset.sum_eq_single k]
  · rw [if_pos ((hc k).2 rfl), one_mul]
  · intro x _ hx; rw [if_neg fun h => hx ((hc x).1 h), zero_mul]
  · intro h; exact absurd (Finset.mem_univ k) h

/-- A sum against an indicator of one place, on the right. -/
theorem sum_pick_right {n : ℕ} (k : Fin n) (c : Fin n → Prop) [DecidablePred c] (hc : ∀ x, c x ↔ x = k) (f : Fin n → EReal) :
    ∑ x, f x * (if c x then 1 else 0) = f k := by
  rw [← sum_pick_left k c hc f]
  exact Finset.sum_congr rfl fun x _ => mul_comm _ _

/-- A sum of the entries of one place. -/
theorem sum_pick_if {n : ℕ} (k : Fin n) (c : Fin n → Prop) [DecidablePred c] (hc : ∀ x, c x ↔ x = k) (f : Fin n → EReal) :
    ∑ x, (if c x then f x else 0) = f k := by
  rw [← sum_pick_left k c hc f]
  exact Finset.sum_congr rfl fun x _ => by split <;> simp

/-- A finite sum of naturals as extended reals. -/
theorem en_sum {ι : Type} (s : Finset ι) (f : ι → ℕ) : ∑ x ∈ s, en (f x) = en (∑ x ∈ s, f x) := by
  classical
  induction s using Finset.induction_on with
  | empty => simp [en_zero]
  | insert a s ha ih => rw [Finset.sum_insert ha, Finset.sum_insert ha, ih, en_add]

/-- A count less one is a place just when the count is the place plus one. -/
theorem en_sub_one {c l : ℕ} : en c - 1 = en l ↔ c = l + 1 := by
  rw [← en_one, en, en, en, ← EReal.coe_sub, EReal.coe_eq_coe_iff]
  constructor
  · intro h; have : (c : ℝ) = ((l + 1 : ℕ) : ℝ) := by push_cast at h ⊢; linarith
    exact_mod_cast this
  · intro h; subst h; push_cast; ring

end Cert.Det
-- ==== Proof.KBodyA.lean ====
/- The pieces of the kernel's block after the selection, read at an index: the one-hot gathers, the
   overlaps, one trip of the suppression, and the compaction. -/
module

public import proofs.«01_k».proof.Proof.KOpen
public import proofs.«01_k».proof.Proof.Spec

@[expose] public section

set_option maxRecDepth 16384
noncomputable section
namespace Cert.KernelIdeal.Val

open Idealize.ShloMosaic Idealize.ShloMosaic.TcCoe Idealize.SL.Sem
open Cert.KernelIdeal Cert.KernelIdeal.Gen Cert.Det

/-- A choice on two tests. -/
theorem sel_and {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [hp, hq, Scalar.select, IntOp.andi]

/-- The identity matrix. -/
theorem p22 (r : Fin 256) (l : Fin 256) : k0_pay22 (F := Ideal) (ix2 r l) = if r = l then 1 else 0 := by
  pointwise [k0_pay22]
  simp (disch := word_cmp_side) only [hlo_ix]
  exact if_congr Fin.ext_iff.symm rfl rfl

/-- The row of places as a column. -/
theorem p23 (x : FVec Ideal S1x256 .f32) (l : Fin 256) : k0_pay23 x (ix2 l 0) = x (ix2 0 l) := by
  pointwise [k0_pay23]
  simp only [p22]
  exact sum_pick_left l (fun x => l = x) (fun x => eq_comm) _

variable (jr : FVec Ideal S1x256 .f32) (jn : ℕ → ℕ) (hj : ∀ q : Fin 256, jr (ix2 0 q) = en (jn q))

include hj in
/-- The lane of a place. -/
theorem p25 (l : Fin 256) : k0_pay25 jr (ix2 l 0) = en (jn l % 128) := by
  pointwise [k0_pay25, k0_pay24]
  rw [p23, hj, bits_lanes, floor_div, rem_eq]

include hj in
/-- The row of a place. -/
theorem p28 (l : Fin 256) (r : Fin 160) : k0_pay28 jr (ix2 l r) = en (jn l / 128) := by
  pointwise [k0_pay28, k0_pay24]
  rw [p23, hj, bits_lanes, floor_div]

/-- The row numbers. -/
theorem p26 (l : Fin 160) : k0_pay26 (F := Ideal) (ix2 0 l) = en l := by
  pointwise [k0_pay26]
  exact sitofp_nat _ (by omega)

/-- The lane numbers. -/
theorem p27 (l : Fin 128) : k0_pay27 (F := Ideal) (ix2 0 l) = en l := by
  pointwise [k0_pay27]
  exact sitofp_nat _ (by omega)

include hj in
/-- The gather of a plane by the two one-hot products: the plane at a slot's place. -/
theorem gat_at (d : FVec Ideal S160x128 .f32) (l : Fin 256) (hl : jn l < 20480) :
    gat d jr (ix2 l 0) = d (ix2 ⟨jn l / 128, by omega⟩ ⟨jn l % 128, by omega⟩) := by
  unfold gat
  pointwise [k0_pay31, k0_pay29, k0_pay30]
  simp only [p25 jr jn hj, p28 jr jn hj, p26, p27, en_inj]
  rw [sum_pick_right ⟨jn l % 128, by omega⟩ (fun x : Fin 128 => jn l % 128 = x.val) (fun x => by
    rw [Fin.ext_iff]; exact eq_comm)]
  exact sum_pick_left ⟨jn l / 128, by omega⟩ (fun x : Fin 160 => jn l / 128 = x.val) (fun x => by
    rw [Fin.ext_iff]; exact eq_comm) (fun x => d (ix2 x _))

include hj in
/-- The gather laid along a row. -/
theorem gatR_at (d : FVec Ideal S160x128 .f32) (l : Fin 256) (hl : jn l < 20480) :
    gatR d jr (ix2 0 l) = d (ix2 ⟨jn l / 128, by omega⟩ ⟨jn l % 128, by omega⟩) := by
  rw [← gat_at jr jn hj d l hl]
  unfold gatR gat
  pointwise [k0_pay35]
  simp only [p22]
  exact sum_pick_left l (fun x => x = l) (fun x => Iff.rfl) _

/-- The overlaps of the gathered boxes. -/
theorem iouK_at (a b c d : FVec Ideal S160x128 .f32) (jr : FVec Ideal S1x256 .f32) (r l : Fin 256) :
    iouK a b c d jr (ix2 r l) = iouF (gat a jr (ix2 r 0)) (gat b jr (ix2 r 0)) (gat c jr (ix2 r 0)) (gat d jr (ix2 r 0))
      (gatR a jr (ix2 0 l)) (gatR b jr (ix2 0 l)) (gatR c jr (ix2 0 l)) (gatR d jr (ix2 0 l)) := by
  unfold iouK iouF
  pointwise [k0_pay40]

/-- One trip of the suppression. -/
theorem p42 (k) (hk : k.val < 256) (a w : FVec Ideal S1x256 .f32) (l : Fin 256) : k0_pay42 k0_pay13 k a w (ix2 0 l) =
    a (ix2 0 l) * (1 - if Ideal.ofBits FTy.f32 1055286886#32 < w (ix2 0 l) ∧ k.val < l.val then
      (if 0 < a (ix2 0 ⟨k, hk⟩) then 1 else 0) else 0) := by
  pointwise [k0_pay42, k0_pay13]
  simp only [iv_nat k.val (by omega), sitofp_nat _ (show (l : ℕ) < 2147483648 by omega), en_lt]
  have e : ∀ x : Fin 256, FloatOps.sitofp (F := Ideal) FTy.f32 (BitVec.ofNat 32 x.val) = en x := fun x => sitofp_nat _ (by omega)
  simp only [e, en_inj]
  rw [sum_pick_if ⟨k.val, hk⟩ (fun x : Fin 256 => x.val = k.val) (fun x => by rw [Fin.ext_iff])]
  simp only [sel_and, Fin.sum_univ_one]

/-- Who is valid at the start. -/
theorem p41 (v) (l : Fin 256) : k0_pay41 (F := Ideal) v (ix2 0 l) = if Ideal.ofBits FTy.f32 0x3C23D70A#32 < v (ix2 0 l) then 1 else 0 := by
  pointwise [k0_pay41]

/-- Whether a slot goes to a place, from who is alive. -/
theorem p44 (A : FVec Ideal S1x256 .f32) (i l : Fin 256) : k0_pay44 (F := Ideal) k0_pay13 k0_pay22 A (ix2 i l) =
    if (∑ x : Fin 256, if x.val ≤ i.val then A (ix2 0 x) else 0) - 1 = en l ∧ 0 < A (ix2 0 i) then 1 else 0 := by
  pointwise [k0_pay44, k0_pay13]
  simp only [p22]
  rw [sum_pick_left i (fun x => i = x) (fun x => eq_comm), sum_pick_left i (fun x => i = x) (fun x => eq_comm)]
  have e : ∀ x : Fin 256, Scalar.select (IntOp.cmpi CmpIPredicate.sle (BitVec.ofNat 32 x.val) (BitVec.ofNat 32 i.val)) (A (ix2 0 x)) 0
      = if x.val ≤ i.val then A (ix2 0 x) else 0 := fun x => by simp (disch := word_cmp_side) only [hlo_ix]
  simp only [e, sel_and, sitofp_nat l.val (by omega)]

/-- The compacted scores. -/
theorem p45 (v : FVec Ideal S1x256 .f32) (w : FVec Ideal S1x256 .f32) (l : Fin 256) :
    k0_pay45 (F := Ideal) k0_pay13 v k0_pay22 w (ix2 0 l) =
      ∑ x : Fin 256, k0_pay44 k0_pay13 k0_pay22 w (ix2 x l) * if 0 < w (ix2 0 x) then v (ix2 0 x) else 0 := by
  pointwise [k0_pay45, k0_pay43]
  refine Finset.sum_congr rfl fun x _ => ?_
  congr 1
  simp only [p22]
  exact sum_pick_left x (fun y => x = y) (fun y => eq_comm) _

/-- The first row stored: the compacted scores. -/
theorem p47_0 (a b c d e f g h i)  (l : Fin 256) : k0_pay47 (F := Ideal) a b c d e f g h i (ix4 0 0 0 l) = h (ix2 0 l) := by
  pointwise [k0_pay47, k0_pay46]
/-- Row 1 stored: the compacted left corners. -/
theorem p47_1 (b c d e w : FVec Ideal S1x256 .f32) (g : FVec Ideal S256x256 .f32) (h : FVec Ideal S1x256 .f32) (l : Fin 256) :
    k0_pay47 (F := Ideal) k0_pay22 b c d e (k0_pay43 w) g h k0_pay46 (ix4 0 0 1 l) =
      ∑ x : Fin 256, g (ix2 x l) * if 0 < w (ix2 0 x) then b (ix2 0 x) else 0 := by
  pointwise [k0_pay47, k0_pay46, k0_pay43]
  refine Finset.sum_congr rfl fun x _ => ?_
  congr 1
  simp only [p22]
  rw [← sum_pick_left x (fun y => x = y) (fun y => eq_comm) (fun y => if 0 < w (ix2 0 y) then b (ix2 0 y) else 0)]
/-- Row 2 stored: the compacted top corners. -/
theorem p47_2 (b c d e w : FVec Ideal S1x256 .f32) (g : FVec Ideal S256x256 .f32) (h i : FVec Ideal S1x256 .f32) (l : Fin 256) :
    k0_pay47 (F := Ideal) k0_pay22 b c d e (k0_pay43 w) g h i (ix4 0 0 2 l) =
      ∑ x : Fin 256, g (ix2 x l) * if 0 < w (ix2 0 x) then c (ix2 0 x) else 0 := by
  pointwise [k0_pay47, k0_pay46, k0_pay43]
  refine Finset.sum_congr rfl fun x _ => ?_
  congr 1
  simp only [p22]
  rw [← sum_pick_left x (fun y => x = y) (fun y => eq_comm) (fun y => if 0 < w (ix2 0 y) then c (ix2 0 y) else 0)]
/-- Row 3 stored: the compacted right corners. -/
theorem p47_3 (b c d e w : FVec Ideal S1x256 .f32) (g : FVec Ideal S256x256 .f32) (h i : FVec Ideal S1x256 .f32) (l : Fin 256) :
    k0_pay47 (F := Ideal) k0_pay22 b c d e (k0_pay43 w) g h i (ix4 0 0 3 l) =
      ∑ x : Fin 256, g (ix2 x l) * if 0 < w (ix2 0 x) then d (ix2 0 x) else 0 := by
  pointwise [k0_pay47, k0_pay46, k0_pay43]
  refine Finset.sum_congr rfl fun x _ => ?_
  congr 1
  simp only [p22]
  rw [← sum_pick_left x (fun y => x = y) (fun y => eq_comm) (fun y => if 0 < w (ix2 0 y) then d (ix2 0 y) else 0)]
/-- Row 4 stored: the compacted bottom corners. -/
theorem p47_4 (b c d e w : FVec Ideal S1x256 .f32) (g : FVec Ideal S256x256 .f32) (h i : FVec Ideal S1x256 .f32) (l : Fin 256) :
    k0_pay47 (F := Ideal) k0_pay22 b c d e (k0_pay43 w) g h i (ix4 0 0 4 l) =
      ∑ x : Fin 256, g (ix2 x l) * if 0 < w (ix2 0 x) then e (ix2 0 x) else 0 := by
  pointwise [k0_pay47, k0_pay46, k0_pay43]
  refine Finset.sum_congr rfl fun x _ => ?_
  congr 1
  simp only [p22]
  rw [← sum_pick_left x (fun y => x = y) (fun y => eq_comm) (fun y => if 0 < w (ix2 0 y) then e (ix2 0 y) else 0)]

end Cert.KernelIdeal.Val
-- ==== Proof.KBody.lean ====
/- The kernel's block as a function of its inputs: the suppression over the two hundred slots and the
   compaction, in the words of the specification. -/
module

public import proofs.«01_k».proof.Proof.KSel
public import proofs.«01_k».proof.Proof.KBodyA
public import Idealize.ShloMosaic.Lib.Pipeline.ValueKit.Tiles
public import Idealize.ShloMosaic.Lib.WordArith.Masks

@[expose] public section

set_option maxRecDepth 16384
noncomputable section
namespace Cert.KernelIdeal.Val

open Idealize.ShloMosaic Idealize.ShloMosaic.TcCoe Idealize.SL.Sem
open Cert.KernelIdeal Cert.KernelIdeal.Gen Cert.Det

/-- The number of trips of the suppression loop. -/
theorem trips2 : k0_t2_loop.trips = 200 := by decide

/-- The row of the overlaps a trip loads. -/
theorem ld_row (W : FVec Ideal S256x256 .f32) (k : Fin k0_t2_loop.trips) (hk : k.val < 256) (l : Fin 256) :
    View.ld (Val := Elt Ideal) (e' := .f32) W (Rect.unit (s := S256x256) (k0_off1 k) S1x256.size (k0_off1_inb k)) (ix2 0 l) =
      W (ix2 ⟨k.val, hk⟩ l) := by
  refine View.ld_unit_apply_of (S := S256x256) (Val := Elt Ideal) (show S256x256.Idx → Elt Ideal .f32 from W) _ _ _ _ (ix2 ⟨k.val, hk⟩ l) fun a => ?_
  fin_cases a
  · show k.val = (Scf.iv 0#32 1#32 k.val).toNat + 0
    rw [WordArith.toNat_iv_zero_one _ (by omega), Nat.add_zero]
  · show l.val = 0 + l.val
    omega

open Classical in
/-- The suppression loop follows who is alive. -/
theorem nms_alive (W : FVec Ideal S256x256 .f32) (init : FVec Ideal S1x256 .f32) (valid : ℕ → Prop) (ov : ℕ → ℕ → Prop)
    (hi : ∀ l : Fin 256, init (ix2 0 l) = if valid l then 1 else 0)
    (hW : ∀ k l : Fin 256, Ideal.ofBits FTy.f32 1055286886#32 < W (ix2 k l) ↔ ov k l) (k : ℕ) (hk : k ≤ 200) (l : Fin 256) :
    nmsK W init k (ix2 0 l) = if alive valid ov k l then 1 else 0 := by
  induction k generalizing l with
  | zero => exact hi l
  | succ k ih =>
    have hk' : k < k0_t2_loop.trips := by rw [trips2]; omega
    have hstep : nmsK W init (k + 1) = k0_pay42 k0_pay13 ⟨k, hk'⟩ (nmsK W init k)
        (View.ld W (Rect.unit (s := S256x256) (k0_off1 ⟨k, hk'⟩) S1x256.size (k0_off1_inb ⟨k, hk'⟩))) := by
      rw [nmsK, dif_pos hk']
    have hkl : k < 256 := by omega
    rw [hstep, p42 ⟨k, hk'⟩ hkl, ld_row W ⟨k, hk'⟩ hkl, ih (by omega), ih (by omega)]
    have h := hW ⟨k, hkl⟩ l
    simp only at h ⊢
    simp only [h, alive]
    by_cases h1 : alive valid ov k l <;> by_cases h2 : alive valid ov k k <;> by_cases h3 : ov k l <;> by_cases h4 : k < l.val <;>
      simp [h1, h2, h3, h4]
    show ((1 : ℝ) : EReal) - ((1 : ℝ) : EReal) = 0
    rw [← EReal.coe_sub, sub_self, EReal.coe_zero]

open Classical in
/-- The row of one block: the kernel's output at field `f`, place `l`, is the compaction's entry. -/
theorem outK_isOut (a b c d : FVec Ideal S160x128 .f32) (v jr : FVec Ideal S1x256 .f32) (jn : ℕ → ℕ)
    (hj : ∀ q : Fin 256, jr (ix2 0 q) = en (jn q)) (hjn : ∀ q : Fin 256, jn q < 20480)
    (lo pr : ℕ → ℕ → EReal) (ms : ℕ → EReal) (σ : ℕ → ℕ)
    (ha : ∀ (r : Fin 160) (l : Fin 128), a (ix2 r l) = dec lo pr 0 (r * 128 + l))
    (hb : ∀ (r : Fin 160) (l : Fin 128), b (ix2 r l) = dec lo pr 1 (r * 128 + l))
    (hc : ∀ (r : Fin 160) (l : Fin 128), c (ix2 r l) = dec lo pr 2 (r * 128 + l))
    (hd : ∀ (r : Fin 160) (l : Fin 128), d (ix2 r l) = dec lo pr 3 (r * 128 + l))
    (hv : ∀ q : Fin 256, v (ix2 0 q) = if q.val < 200 then ms (σ q) else ⊥)
    (hσ : ∀ q : Fin 256, v (ix2 0 q) ≠ ⊥ → jn q = σ q) (l : Fin 256) :
    IsOut (keptS lo pr ms σ) (entS lo pr ms σ 0) l (outK a b c d v jr (ix4 0 0 0 l)) ∧
    IsOut (keptS lo pr ms σ) (entS lo pr ms σ 1) l (outK a b c d v jr (ix4 0 0 1 l)) ∧
    IsOut (keptS lo pr ms σ) (entS lo pr ms σ 2) l (outK a b c d v jr (ix4 0 0 2 l)) ∧
    IsOut (keptS lo pr ms σ) (entS lo pr ms σ 3) l (outK a b c d v jr (ix4 0 0 3 l)) ∧
    IsOut (keptS lo pr ms σ) (entS lo pr ms σ 4) l (outK a b c d v jr (ix4 0 0 4 l)) := by
  have hplace : ∀ q : Fin 256, jn q / 128 * 128 + jn q % 128 = jn q := fun q => by omega
  have row : ∀ (e : FVec Ideal S160x128 .f32) (f : ℕ), (∀ (r : Fin 160) (l : Fin 128), e (ix2 r l) = dec lo pr f (r * 128 + l)) →
      ∀ q : Fin 256, gatR e jr (ix2 0 q) = dec lo pr f (jn q) := fun e f he q => by
    rw [gatR_at jr jn hj e q (hjn q), he]; exact congrArg (dec lo pr f) (hplace q)
  have col : ∀ (e : FVec Ideal S160x128 .f32) (f : ℕ), (∀ (r : Fin 160) (l : Fin 128), e (ix2 r l) = dec lo pr f (r * 128 + l)) →
      ∀ q : Fin 256, gat e jr (ix2 q 0) = dec lo pr f (jn q) := fun e f he q => by
    rw [gat_at jr jn hj e q (hjn q), he]; exact congrArg (dec lo pr f) (hplace q)
  -- who is valid, and that a valid slot holds the sorted position
  have hval : ∀ q : Fin 256, Ideal.ofBits FTy.f32 0x3C23D70A#32 < v (ix2 0 q) ↔ validS ms σ q := fun q => by
    rw [hv, validS]
    by_cases hq : q.val < 200
    · simp [hq]
    · simp [hq]
  have hjσ : ∀ q : Fin 256, validS ms σ q → jn q = σ q := fun q hq => hσ q (ne_bot_of_gt ((hval q).2 hq))
  obtain ⟨A, hA⟩ : ∃ A : ℕ → Prop, A = keptS lo pr ms σ := ⟨_, rfl⟩
  have hkept : ∀ q : Fin 256, nmsK (iouK a b c d jr) (k0_pay41 v) k0_t2_loop.trips (ix2 0 q) = if A q then 1 else 0 := fun q => by
    rw [trips2, hA, keptS, nms_alive (iouK a b c d jr) (k0_pay41 v) (fun q => validS ms σ q)
      (fun k q => Ideal.ofBits FTy.f32 1055286886#32 < iouP lo pr (jn k) (jn q))]
    · refine if_congr (alive_congr (fun _ => Iff.rfl) (fun k q hk hq => ?_) 200 q) rfl rfl
      have e1 := hjσ ⟨k, by have := hk.1; omega⟩ hk
      have e2 := hjσ ⟨q, by have := hq.1; omega⟩ hq
      simp only at e1 e2
      rw [e1, e2, ovS]
    · intro l; rw [p41]; exact if_congr (hval l) rfl rfl
    · intro k l
      rw [iouK_at, col a 0 ha, col b 1 hb, col c 2 hc, col d 3 hd, row a 0 ha, row b 1 hb, row c 2 hc, row d 3 hd]
      rfl
    · exact le_rfl
  have hA200 : ∀ q, A q → validS ms σ q := fun q hq => by rw [hA] at hq; exact alive_valid hq
  -- where a slot goes
  have h44 : ∀ x : Fin 256, k0_pay44 (F := Ideal) k0_pay13 k0_pay22 (nmsK (iouK a b c d jr) (k0_pay41 v) k0_t2_loop.trips) (ix2 x l)
      = if cnt A x = l.val + 1 ∧ A x then 1 else 0 := fun x => by
    rw [p44]
    refine if_congr (and_congr ?_ ?_) rfl rfl
    · rw [← en_sub_one, ← cnt_sum A 256 x (fun y => if y.val ≤ x.val ∧ A y then 1 else 0) (fun y => ⟨fun h => if_pos h, fun h => if_neg h⟩), ← en_sum]
      have : (∑ y : Fin 256, if y.val ≤ x.val then nmsK (iouK a b c d jr) (k0_pay41 v) k0_t2_loop.trips (ix2 0 y) else 0)
          = ∑ y : Fin 256, en (if y.val ≤ x.val ∧ A y then 1 else 0) := Finset.sum_congr rfl fun y _ => by
        rw [hkept]
        by_cases h1 : y.val ≤ x.val <;> by_cases h2 : A y <;> simp [h1, h2, en_zero, en_one]
      rw [this]
    · rw [hkept]; by_cases h : A x <;> simp [h]
  have fin : ∀ (g : Fin 256 → EReal) (val : ℕ → EReal), (∀ q : Fin 256, A q → g q = val q) →
      IsOut A val l (∑ x : Fin 256, k0_pay44 (F := Ideal) k0_pay13 k0_pay22 (nmsK (iouK a b c d jr) (k0_pay41 v) k0_t2_loop.trips) (ix2 x l) *
        if 0 < nmsK (iouK a b c d jr) (k0_pay41 v) k0_t2_loop.trips (ix2 0 x) then g x else 0) := fun g val hg => by
    have e : ∀ x : Fin 256, k0_pay44 (F := Ideal) k0_pay13 k0_pay22 (nmsK (iouK a b c d jr) (k0_pay41 v) k0_t2_loop.trips) (ix2 x l) *
        (if 0 < nmsK (iouK a b c d jr) (k0_pay41 v) k0_t2_loop.trips (ix2 0 x) then g x else 0)
        = if cnt A x = l.val + 1 ∧ A x then g x else 0 := fun x => by
      rw [h44, hkept]
      by_cases h1 : cnt A x = l.val + 1 <;> by_cases h2 : A x <;> simp [h1, h2]
    simp only [e]
    refine ⟨fun k hk hck => ?_, fun h => Finset.sum_eq_zero fun x _ => if_neg fun hx => h x hx.2 hx.1⟩
    have hk2 : k < 256 := by have := (hA200 k hk).1; omega
    rw [Finset.sum_eq_single ⟨k, hk2⟩]
    · rw [if_pos ⟨hck, hk⟩]; exact hg ⟨k, hk2⟩ hk
    · intro x _ hx
      exact if_neg fun h => hx (Fin.ext (cnt_inj h.2 hk (h.1.trans hck.symm)))
    · intro h; exact absurd (Finset.mem_univ _) h
  rw [← hA]
  refine ⟨?_, ?_, ?_, ?_, ?_⟩
  · unfold outK
    rw [p47_0, p45]
    exact fin _ _ fun q hq => by rw [hv, if_pos (hA200 q hq).1]; rfl
  · unfold outK
    rw [p47_1]
    exact fin _ _ fun q hq => by rw [row a 0 ha, hjσ q (hA200 q hq)]; rfl
  · unfold outK
    rw [p47_2]
    exact fin _ _ fun q hq => by rw [row b 1 hb, hjσ q (hA200 q hq)]; rfl
  · unfold outK
    rw [p47_3]
    exact fin _ _ fun q hq => by rw [row c 2 hc, hjσ q (hA200 q hq)]; rfl
  · unfold outK
    rw [p47_4]
    exact fin _ _ fun q hq => by rw [row d 3 hd, hjσ q (hA200 q hq)]; rfl

end Cert.KernelIdeal.Val
-- ==== Proof.KHostD.lean ====
/- The three arrays the host prefix hands to the kernel, as functions of the arguments. -/
module

public import proofs.«01_k».proof.Proof.Gen.KernelIdeal.Frame
public import Idealize.ShloMosaic.Lib.Pipeline.ValueKit
public import proofs.«01_k».proof.Proof.KNum

@[expose] public section

set_option maxRecDepth 16384
noncomputable section
namespace Cert.KernelIdeal.Val

open Idealize.ShloMosaic Idealize.ShloMosaic.TcCoe Idealize.SL.Sem
open Cert.KernelIdeal Cert.KernelIdeal.Gen

/-- The padded scores as a function of the score table. -/
def hSc (A : FVec Ideal S160000x81 .f32) : FVec Ideal S8x80x160x128 .f32 :=
  shapeCast S8x80x160x128 (pad S8x80x20480 ![0, 0, 0] ![0, 0, 480] ![0, 0, 0]
    (extractStridedSlice S8x80x20000 ![0, 1, 0] (transpose S8x81x20000 [0, 2, 1] (shapeCast S8x20000x81 A shapeCasts_S160000x81_S8x20000x81)
      transposes_S8x20000x81_S8x81x20000_0_2_1) slices_S8x81x20000_S8x80x20000_0_1_0)
    (sitofp .f32 (constantI S_ 32 0#32) : FVec Ideal S_ .f32) pads_S8x80x20000_S8x80x20480_000_000_04800 h_S_) shapeCasts_S8x80x20480_S8x80x160x128

/-- The padded offsets as a function of the offset array. -/
def hLo (A : FVec Ideal S8x20000x4 .f32) : FVec Ideal S8x4x160x128 .f32 :=
  shapeCast S8x4x160x128 (pad S8x4x20480 ![0, 0, 0] ![0, 0, 480] ![0, 0, 0]
    (transpose S8x4x20000 [0, 2, 1] A transposes_S8x20000x4_S8x4x20000_0_2_1)
    (sitofp .f32 (constantI S_ 32 0#32) : FVec Ideal S_ .f32) pads_S8x4x20000_S8x4x20480_000_000_04800 h_S_) shapeCasts_S8x4x20480_S8x4x160x128

/-- The padded priors as a function of the prior array. -/
def hPr (A : FVec Ideal S20000x4 .f32) : FVec Ideal S4x160x128 .f32 :=
  shapeCast S4x160x128 (pad S4x20480 ![0, 0] ![0, 480] ![0, 0]
    (transpose S4x20000 [1, 0] A transposes_S20000x4_S4x20000_1_0)
    (sitofp .f32 (constantI S_ 32 0#32) : FVec Ideal S_ .f32) pads_S4x20000_S4x20480_000_04800 h_S_) shapeCasts_S4x20480_S4x160x128

end Cert.KernelIdeal.Val
-- ==== Proof.KHostA.lean ====
/- The three padded arrays read at an index. -/
module

public import proofs.«01_k».proof.Proof.KHostD
public import Idealize.ShloMosaic.Lib.Pipeline.ValueKit
public import proofs.«01_k».proof.Proof.KNum

@[expose] public section

set_option maxRecDepth 16384
noncomputable section
namespace Cert.KernelIdeal.Val

open Idealize.ShloMosaic Idealize.ShloMosaic.TcCoe Idealize.SL.Sem
open Cert.KernelIdeal Cert.KernelIdeal.Gen Cert.Det

/-- The scores of a class, by position; zero past the data. -/
def scF (A : FVec Ideal S160000x81 .f32) (b : Fin 8) (j : Fin 80) (p : ℕ) : EReal :=
  if h : p < 20000 then A (ix2 ⟨b.val * 20000 + p, by omega⟩ ⟨1 + j.val, by omega⟩) else 0

/-- The offsets of an image, by component and position; zero past the data. -/
def loF (A : FVec Ideal S8x20000x4 .f32) (b : Fin 8) (f p : ℕ) : EReal :=
  if h : p < 20000 ∧ f < 4 then A (ix3 b ⟨p, h.1⟩ ⟨f, h.2⟩) else 0

/-- The priors, by component and position; zero past the data. -/
def prF (A : FVec Ideal S20000x4 .f32) (f p : ℕ) : EReal :=
  if h : p < 20000 ∧ f < 4 then A (ix2 ⟨p, h.1⟩ ⟨f, h.2⟩) else 0

/-- The padding value is zero. -/
theorem pad0 : FloatOps.sitofp (F := Ideal) FTy.f32 0#32 = 0 := by
  have := sitofp_nat 0 (by norm_num)
  rw [en_zero] at this
  exact this

/-- The padded scores at an index. -/
theorem hSc_at (A : FVec Ideal S160000x81 .f32) (b : Fin 8) (j : Fin 80) (r : Fin 160) (l : Fin 128) :
    hSc A (ix4 b j r l) = scF A b j (r.val * 128 + l.val) := by
  pointwise [hSc]
  simp only [pad0, scF]

/-- The padded offsets at an index. -/
theorem hLo_at (A : FVec Ideal S8x20000x4 .f32) (b : Fin 8) (f : Fin 4) (r : Fin 160) (l : Fin 128) :
    hLo A (ix4 b f r l) = loF A b f (r.val * 128 + l.val) := by
  pointwise [hLo]
  simp only [pad0, loF]
  have hf := f.isLt
  split <;> rename_i h
  · rw [dif_pos ⟨h, hf⟩]
  · rw [dif_neg fun h' => h h'.1]

/-- The padded priors at an index. -/
theorem hPr_at (A : FVec Ideal S20000x4 .f32) (f : Fin 4) (r : Fin 160) (l : Fin 128) :
    hPr A (ix3 f r l) = prF A f (r.val * 128 + l.val) := by
  pointwise [hPr]
  simp only [pad0, prF]
  have hf := f.isLt
  split <;> rename_i h
  · rw [dif_pos ⟨h, hf⟩]
  · rw [dif_neg fun h' => h h'.1]

end Cert.KernelIdeal.Val
-- ==== Proof.KBlk.lean ====
/- One block of the output: the kept candidates of an image and class, moved to the front. -/
module

public import proofs.«01_k».proof.Proof.KBody
public import proofs.«01_k».proof.Proof.KHostA

@[expose] public section

set_option maxRecDepth 16384
noncomputable section
namespace Cert.KernelIdeal.Val

open Idealize.ShloMosaic Idealize.ShloMosaic.TcCoe Idealize.SL.Sem
open Cert.KernelIdeal Cert.KernelIdeal.Gen Cert.Det

/-- The scores of a class with those under the threshold replaced by −∞. -/
def msF (A : FVec Ideal S160000x81 .f32) (b : Fin 8) (j : Fin 80) (p : ℕ) : EReal :=
  if Ideal.ofBits FTy.f32 0x3C23D70A#32 < scF A b j p then scF A b j p else ⊥

section planes
variable (x1 : FVec Ideal S1x4x160x128 .f32) (x2 : FVec Ideal S4x160x128 .f32) (lo pr : ℕ → ℕ → EReal)
  (h1 : ∀ (f : Fin 4) (r : Fin 160) (l : Fin 128), x1 (ix4 0 f r l) = lo f (r * 128 + l))
  (h2 : ∀ (f : Fin 4) (r : Fin 160) (l : Fin 128), x2 (ix3 f r l) = pr f (r * 128 + l))
include h1 h2

/-- The first decoded plane is the left edge. -/
theorem dx1_at (r : Fin 160) (l : Fin 128) : dx1 x1 x2 (ix2 r l) = dec lo pr 0 (r * 128 + l) := by
  pointwise [dx1, k0_pay6, k0_pay3, k0_pay2, k0_pay1, k0_pay4, k0_pay5]
  simp only [h1, h2]
  rfl

/-- The second decoded plane is the upper edge. -/
theorem dy1_at (r : Fin 160) (l : Fin 128) : dy1 x1 x2 (ix2 r l) = dec lo pr 1 (r * 128 + l) := by
  pointwise [dy1, k0_pay8, k0_pay7, k0_pay6, k0_pay3, k0_pay2, k0_pay1, k0_pay4, k0_pay5]
  simp only [h1, h2]
  rfl

/-- The third decoded plane is the right edge. -/
theorem dx2_at (r : Fin 160) (l : Fin 128) : dx2 x1 x2 (ix2 r l) = dec lo pr 2 (r * 128 + l) := by
  pointwise [dx2, k0_pay9, k0_pay6, k0_pay3, k0_pay2, k0_pay1, k0_pay4, k0_pay5]
  simp only [h1, h2]
  rfl

/-- The fourth decoded plane is the lower edge. -/
theorem dy2_at (r : Fin 160) (l : Fin 128) : dy2 x1 x2 (ix2 r l) = dec lo pr 3 (r * 128 + l) := by
  pointwise [dy2, k0_pay10, k0_pay8, k0_pay7, k0_pay6, k0_pay3, k0_pay2, k0_pay1, k0_pay4, k0_pay5]
  simp only [h1, h2]
  rfl

end planes

/-- What the body stores, of a scores block `x0`, an offsets block `x1` and the priors `x2`: row `f` holds the kept
    candidates' score (`f = 0`) or corner coordinate (`f = 1 … 4`), in order of score. -/
theorem block_isOut (x0 : FVec Ideal S1x1x160x128 .f32) (x1 : FVec Ideal S1x4x160x128 .f32) (x2 : FVec Ideal S4x160x128 .f32)
    (sc : ℕ → EReal) (lo pr : ℕ → ℕ → EReal)
    (h0 : ∀ (r : Fin 160) (l : Fin 128), x0 (ix4 0 0 r l) = sc (r * 128 + l))
    (hz : ∀ p, 20000 ≤ p → sc p = 0)
    (h1 : ∀ (f : Fin 4) (r : Fin 160) (l : Fin 128), x1 (ix4 0 f r l) = lo f (r * 128 + l))
    (h2 : ∀ (f : Fin 4) (r : Fin 160) (l : Fin 128), x2 (ix3 f r l) = pr f (r * 128 + l))
    (ms : ℕ → EReal) (hms : ∀ p, ms p = if Ideal.ofBits FTy.f32 0x3C23D70A#32 < sc p then sc p else ⊥)
    (σ : ℕ → ℕ) (hσ : Sorted 20000 ms σ) (f : Fin 8) (hf : f.val < 5) (l : Fin 256) :
    IsOut (keptS lo pr ms σ) (entS lo pr ms σ f) l
      (outK (dx1 x1 x2) (dy1 x1 x2) (dx2 x1 x2) (dy2 x1 x2) (T1 x0).2.1 (T1 x0).2.2 (ix4 0 0 f l)) := by
  obtain ⟨hv, jn, hj⟩ := sel_facts x0 sc σ h0 hz ms hms hσ
  obtain ⟨r0, r1, r2, r3, r4⟩ := outK_isOut (dx1 x1 x2) (dy1 x1 x2) (dx2 x1 x2) (dy2 x1 x2) (T1 x0).2.1 (T1 x0).2.2 jn
    (fun q => (hj q).1) (fun q => (hj q).2.1) lo pr ms σ (dx1_at x1 x2 lo pr h1 h2) (dy1_at x1 x2 lo pr h1 h2)
    (dx2_at x1 x2 lo pr h1 h2) (dy2_at x1 x2 lo pr h1 h2) hv (fun q => (hj q).2.2) l
  match f, hf with
  | ⟨0, _⟩, _ => exact r0
  | ⟨1, _⟩, _ => exact r1
  | ⟨2, _⟩, _ => exact r2
  | ⟨3, _⟩, _ => exact r3
  | ⟨4, _⟩, _ => exact r4

end Cert.KernelIdeal.Val
-- ==== Proof.KHostB.lean ====
/- The host prefix run: the kernel's three arrays when it starts. -/
module

public import proofs.«01_k».proof.Proof.KHostD
public import Idealize.ShloMosaic.Lib.Pipeline.ValueKit
public import proofs.«01_k».proof.Proof.KNum

@[expose] public section

set_option maxRecDepth 16384
noncomputable section
namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ)

/-- What the kernel's first array holds when it starts. -/
theorem V4 (c : Dev nD) : V m c main_call0_v4 = hSc (m ((c : Thread nD τ).loc main_arg1)) := by
  show StableHlo.after hostOps0 _ (Proc.devRef .tc main_call0_v4) = _
  after_results
  simp only [StableHlo.TRef.ofBuf_toBuf]
  dsimp only [StableHlo.TRef.of, StableHlo.TRef.toBuf, StableHlo.TRef.ofBuf]
  simp only [cast_eq]
  unfold hSc
  refine congrArg (fun x => shapeCast S8x80x160x128 x shapeCasts_S8x80x20480_S8x80x160x128) ?_
  rfl

/-- What the kernel's second array holds when it starts. -/
theorem V7 (c : Dev nD) : V m c main_call0_v7 = hLo (m ((c : Thread nD τ).loc main_arg0)) := by
  show StableHlo.after hostOps0 _ (Proc.devRef .tc main_call0_v7) = _
  after_results
  simp only [StableHlo.TRef.ofBuf_toBuf]
  dsimp only [StableHlo.TRef.of, StableHlo.TRef.toBuf, StableHlo.TRef.ofBuf]
  simp only [cast_eq]
  unfold hLo
  refine congrArg (fun x => shapeCast S8x4x160x128 x shapeCasts_S8x4x20480_S8x4x160x128) ?_
  rfl

/-- What the kernel's third array holds when it starts. -/
theorem V10 (c : Dev nD) : V m c main_call0_v10 = hPr (m ((c : Thread nD τ).loc main_arg2)) := by
  show StableHlo.after hostOps0 _ (Proc.devRef .tc main_call0_v10) = _
  after_results
  simp only [StableHlo.TRef.ofBuf_toBuf]
  dsimp only [StableHlo.TRef.of, StableHlo.TRef.toBuf, StableHlo.TRef.ofBuf]
  simp only [cast_eq]
  unfold hPr
  refine congrArg (fun x => shapeCast S4x160x128 x shapeCasts_S4x20480_S4x160x128) ?_
  rfl

end Cert.KernelIdeal.Val
-- ==== Proof.KIdx.lean ====
/- The blocks each grid point reads and writes, as closed forms of the grid coordinates. -/
module

public import proofs.«01_k».proof.Proof.Gen.KernelIdeal.Frame
public import Idealize.ShloMosaic.Lib.Pipeline.ValueKit

@[expose] public section

set_option maxRecDepth 16384
noncomputable section
namespace Cert.KernelIdeal.Val

open Idealize.ShloMosaic Idealize.ShloMosaic.TcCoe Idealize.SL.Sem
open Cert.KernelIdeal Cert.KernelIdeal.Gen

/-- The block indices of the four windows at every grid point. -/
theorem idx : ∀ t : Fin cfg0.N, win0_0.index t = ![(grid0.coords t 0).val, (grid0.coords t 1).val, 0, 0] ∧
    win0_1.index t = ![(grid0.coords t 0).val, 0, 0, 0] ∧ win0_2.index t = ![0, 0, 0] ∧
    win0_3.index t = ![(grid0.coords t 0).val, (grid0.coords t 1).val, 0, 0] :=
  (by decide +kernel : ∀ t : Fin grid0.N, _)

/-- The output's blocks cover its array. -/
theorem covers3 : (cfg0.win 3).Covers := by decide +kernel

end Cert.KernelIdeal.Val
-- ==== Proof.KArrA.lean ====
/- What each grid point loads and stores, in terms of the arguments. -/
module

public import proofs.«01_k».proof.Proof.KBlk
public import proofs.«01_k».proof.Proof.KHostB
public import proofs.«01_k».proof.Proof.KIdx

@[expose] public section

set_option maxRecDepth 16384
noncomputable section
namespace Cert.KernelIdeal.Val

open Idealize.ShloMosaic Idealize.ShloMosaic.TcCoe Idealize.SL.Sem
open Cert.KernelIdeal Cert.KernelIdeal.Gen Cert.Det

variable (m : (ℓ : Loc nD τ sig) → Buf (Elt Ideal) ℓ)

/-- The scores block at a grid point. -/
theorem blk0_at (c : Dev nD) (t : Fin cfg0.N) (r : Fin 160) (l : Fin 128) :
    (iblk m c 0 t : Vec Ideal S1x1x160x128 .f32) (ix4 0 0 r l) =
      scF (m ((c : Thread nD τ).loc main_arg1)) (grid0.coords t 0) (grid0.coords t 1) (r * 128 + l) := by
  have h : (iblk m c 0 t : Vec Ideal S1x1x160x128 .f32) (ix4 0 0 r l) =
      (V m c main_call0_v4 : Vec Ideal S8x80x160x128 .f32) (ix4 (grid0.coords t 0) (grid0.coords t 1) r l) := by
    blk_point [iblk, idx t]
  rw [h, V4]
  exact hSc_at _ _ _ _ _

/-- The offsets block at a grid point. -/
theorem blk1_at (c : Dev nD) (t : Fin cfg0.N) (f : Fin 4) (r : Fin 160) (l : Fin 128) :
    (iblk m c 1 t : Vec Ideal S1x4x160x128 .f32) (ix4 0 f r l) =
      loF (m ((c : Thread nD τ).loc main_arg0)) (grid0.coords t 0) f (r * 128 + l) := by
  have h : (iblk m c 1 t : Vec Ideal S1x4x160x128 .f32) (ix4 0 f r l) =
      (V m c main_call0_v7 : Vec Ideal S8x4x160x128 .f32) (ix4 (grid0.coords t 0) f r l) := by
    blk_point [iblk, idx t]
  rw [h, V7]
  exact hLo_at _ _ _ _ _

/-- The priors block at a grid point: the whole array. -/
theorem blk2_at (c : Dev nD) (t : Fin cfg0.N) (f : Fin 4) (r : Fin 160) (l : Fin 128) :
    (iblk m c 2 t : Vec Ideal S4x160x128 .f32) (ix3 f r l) =
      prF (m ((c : Thread nD τ).loc main_arg2)) f (r * 128 + l) := by
  have h : (iblk m c 2 t : Vec Ideal S4x160x128 .f32) (ix3 f r l) =
      (V m c main_call0_v10 : Vec Ideal S4x160x128 .f32) (ix3 f r l) := by
    blk_point [iblk, idx t]
  rw [h, V10]
  exact hPr_at _ _ _ _

/-- What one element of the output is: entry `f` of the `l`-th kept candidate of image `b` and class `j`. -/
def Good (A0 : FVec Ideal S8x20000x4 .f32) (A1 : FVec Ideal S160000x81 .f32) (A2 : FVec Ideal S20000x4 .f32)
    (b : Fin 8) (j : Fin 80) (f l : ℕ) (x : EReal) : Prop :=
  ∀ σ : ℕ → ℕ, Sorted 20000 (msF A1 b j) σ →
    IsOut (keptS (loF A0 b) (prF A2) (msF A1 b j) σ) (entS (loF A0 b) (prF A2) (msF A1 b j) σ f) l x

/-- What the body leaves at a grid point. -/
theorem outs_good (c : Dev nD) (t : Fin cfg0.N) (f : Fin 8) (hf : f.val < 5) (l : Fin 256) :
    Good (m ((c : Thread nD τ).loc main_arg0)) (m ((c : Thread nD τ).loc main_arg1)) (m ((c : Thread nD τ).loc main_arg2))
      (grid0.coords t 0) (grid0.coords t 1) f l ((outsAt0 m c t : Vec Ideal S1x1x8x256 .f32) (ix4 0 0 f l)) := by
  intro σ hσ
  rw [outs_open]
  exact block_isOut _ _ _ _ _ _ (blk0_at m c t) (fun p hp => dif_neg (by omega)) (blk1_at m c t) (blk2_at m c t) _ (fun _ => rfl) σ hσ f hf l

end Cert.KernelIdeal.Val
-- ==== Proof.KArr.lean ====
/- The kernel's output array after the run, and its result after the host operations that follow. -/
module

public import proofs.«01_k».proof.Proof.KArrA

@[expose] public section

set_option maxRecDepth 16384
noncomputable section
namespace Cert.KernelIdeal.Val

open Idealize.ShloMosaic Idealize.ShloMosaic.TcCoe Idealize.SL.Sem
open Cert.KernelIdeal Cert.KernelIdeal.Gen Cert.Det

variable (m : (ℓ : Loc nD τ sig) → Buf (Elt Ideal) ℓ)

/-- THE OUTPUT ARRAY after the run. -/
theorem arr_good (c : Dev nD) (b : Fin 8) (j : Fin 80) (f : Fin 8) (hf : f.val < 5) (l : Fin 256) :
    Good (m ((c : Thread nD τ).loc main_arg0)) (m ((c : Thread nD τ).loc main_arg1)) (m ((c : Thread nD τ).loc main_arg2))
      b j f l (((dats m 0 c).arrAt 3 (cfgs 0).N : Vec Ideal S8x80x8x256 .f32) (ix4 b j f l)) := by
  have key := (dats m 0 c).arrAt_forall_of_covers 3 (fun (i : S8x80x8x256.Idx) (v : EReal) => ∀ (b : Fin 8) (j : Fin 80) (f : Fin 8) (l : Fin 256),
    i = ix4 b j f l → f.val < 5 →
      Good (m ((c : Thread nD τ).loc main_arg0)) (m ((c : Thread nD τ).loc main_arg1)) (m ((c : Thread nD τ).loc main_arg2)) b j f l v)
    covers3 (fun t ht y => ?_) (ix4 b j f l)
  · exact key b j f l rfl hf
  · intro b j f l hi hf
    have hb : b = grid0.coords t 0 := by
      have := congrArg (fun i : S8x80x8x256.Idx => (i 0).val) hi
      blk_simp [idx t] at this
      exact Fin.ext this.symm
    have hj : j = grid0.coords t 1 := by
      have := congrArg (fun i : S8x80x8x256.Idx => (i 1).val) hi
      blk_simp [idx t] at this
      exact Fin.ext this.symm
    have h2 : (y 2).val = f.val := by
      have := congrArg (fun i : S8x80x8x256.Idx => (i 2).val) hi
      blk_simp [idx t] at this
      exact this
    have h3 : (y 3).val = l.val := by
      have := congrArg (fun i : S8x80x8x256.Idx => (i 3).val) hi
      blk_simp [idx t] at this
      exact this
    subst hb hj
    blk_simp
    rw [after0_3]
    have hy : y = ix4 0 0 f l := by
      funext a
      fin_cases a
      · exact Subsingleton.elim (α := Fin 1) _ _
      · exact Subsingleton.elim (α := Fin 1) _ _
      · exact Fin.ext h2
      · exact Fin.ext h3
    rw [hy]
    exact outs_good m c t f hf l

end Cert.KernelIdeal.Val
-- ==== Proof.KRes.lean ====
/- The kernel's result after the host operations that follow the grid. -/
module

public import proofs.«01_k».proof.Proof.KArr

@[expose] public section

set_option maxRecDepth 16384
noncomputable section
namespace Cert.KernelIdeal.Val

open Idealize.ShloMosaic Idealize.ShloMosaic.TcCoe Idealize.SL.Sem
open Cert.KernelIdeal Cert.KernelIdeal.Gen Cert.Det

variable (m : (ℓ : Loc nD τ sig) → Buf (Elt Ideal) ℓ)

/-- The result of an output array: the background's zeros, then the first 200 columns and five rows, transposed. -/
def tailF (X : FVec Ideal S8x80x8x256 .f32) : FVec Ideal S8x81x200x5 .f32 :=
  concatenate S8x81x200x5 1 [⟨S8x1x200x5, broadcastInDim S8x1x200x5 ![] bcast_S_S8x1x200x5 (constant S_ .f32 0x00000000#32)⟩,
    ⟨S8x80x200x5, extractStridedSlice S8x80x200x5 ![0, 0, 0, 0] (transpose S8x80x256x8 [0, 1, 3, 2] X transposes_S8x80x8x256_S8x80x256x8_0_1_3_2)
      slices_S8x80x256x8_S8x80x200x5_0_0_0_0⟩] concatenates_S8x1x200x5_S8x80x200x5_S8x81x200x5_d1

/-- The buffer of the result, after the grid and the operations that follow. -/
theorem tail_eq (c : Dev nD) : Pipeline.afterTail₀ cfgs (dats m) 0 (V0 m) [hostOps1] c main_v0 =
    tailF ((dats m 0 c).arrAt 3 (cfgs 0).N) := by
  show StableHlo.after hostOps1 _ (Proc.devRef .tc main_v0) = _
  after_results
  simp only [StableHlo.TRef.ofBuf_toBuf]
  dsimp only [StableHlo.TRef.of, StableHlo.TRef.toBuf, StableHlo.TRef.ofBuf]
  simp only [cast_eq]
  rw [show Pipeline.withArrays (cfgs 0).spec c (V0 m c) (fun w => (dats m 0 c).arrAt w (cfgs 0).N) (Proc.devRef .tc main_call0_v11) =
      (dats m 0 c).arrAt 3 (cfgs 0).N from
    Pipeline.withArrays_arr (cfgs 0).spec (by decide) c _ _ 3]
  unfold tailF
  rfl

/-- The background class's results are zero. -/
theorem tailF_zero (X : FVec Ideal S8x80x8x256 .f32) (b : Fin 8) (q : Fin 200) (f : Fin 5) : tailF X (ix4 b 0 q f) = 0 := by
  pointwise [tailF]

/-- A foreground class's results are its rows of the output array. -/
theorem tailF_succ (X : FVec Ideal S8x80x8x256 .f32) (b : Fin 8) (j : Fin 80) (q : Fin 200) (f : Fin 5) :
    tailF X (ix4 b ⟨j.val + 1, by omega⟩ q f) = X (ix4 b j ⟨f.val, by omega⟩ ⟨q.val, by omega⟩) := by
  pointwise [tailF]
  rw [dif_neg (by omega)]
  rfl

/-- THE RESULT: zero for the background, and for every other class the kept candidates in order of score. -/
theorem res_good (c : Dev nD) (b : Fin 8) (j : Fin 80) (q : Fin 200) (f : Fin 5) :
    Good (m ((c : Thread nD τ).loc main_arg0)) (m ((c : Thread nD τ).loc main_arg1)) (m ((c : Thread nD τ).loc main_arg2))
      b j f q (tailF ((dats m 0 c).arrAt 3 (cfgs 0).N) (ix4 b ⟨j.val + 1, by omega⟩ q f)) := by
  rw [tailF_succ]
  exact arr_good m c b j ⟨f.val, by omega⟩ f.isLt ⟨q.val, by omega⟩

end Cert.KernelIdeal.Val
-- ==== Proof.RDef.lean ====
/- The reference's intermediate arrays, as functions of its arguments and of one another. -/
module

public import proofs.«01_k».proof.Proof.Gen.ReferenceIdeal.Run
public import Idealize.ShloMosaic.Lib.Pipeline.ValueKit
public import proofs.«01_k».proof.Proof.KNum

@[expose] public section

set_option maxRecDepth 16384
noncomputable section
namespace Cert.ReferenceIdeal.Val

open Idealize.ShloMosaic Idealize.ShloMosaic.TcCoe Idealize.SL.Sem
open Cert.ReferenceIdeal Cert.ReferenceIdeal.Gen Cert.Det

/-- The foreground classes' scores, by image, class and prior. -/
def rScore (A : FVec Ideal S160000x81 .f32) : FVec Ideal S8x80x20000 .f32 :=
  extractStridedSlice S8x80x20000 ![0, 1, 0] (transpose S8x81x20000 [0, 2, 1]
    (shapeCast S8x20000x81 A shapeCasts_S160000x81_S8x20000x81) transposes_S8x20000x81_S8x81x20000_0_2_1) slices_S8x81x20000_S8x80x20000_0_1_0

/-- The last two priors' columns, one copy for each image. -/
def rTail (P : FVec Ideal S20000x4 .f32) : FVec Ideal S8x20000x2 .f32 :=
  broadcastInDim S8x20000x2 ![0, 1, 2] bcast_S1x20000x2_S8x20000x2_0_1_2
    (broadcastInDim S1x20000x2 ![1, 2] bcast_S20000x2_S1x20000x2_1_2 (extractStridedSlice S20000x2 ![0, 2] P slices_S20000x4_S20000x2_0_2))

/-- The decoded width and height. -/
def rSize (L : FVec Ideal S8x20000x4 .f32) (P : FVec Ideal S20000x4 .f32) : FVec Ideal S8x20000x2 .f32 :=
  mulf (rTail P) (Host.exp (mulf (extractStridedSlice S8x20000x2 ![0, 0, 2] L slices_S8x20000x4_S8x20000x2_0_0_2)
    (broadcastInDim S8x20000x2 ![] bcast_S_S8x20000x2 (constant S_ .f32 0x3E4CCCCD#32))))

/-- The decoded upper left corner. -/
def rCorner (L : FVec Ideal S8x20000x4 .f32) (P : FVec Ideal S20000x4 .f32) : FVec Ideal S8x20000x2 .f32 :=
  subf (addf (broadcastInDim S8x20000x2 ![0, 1, 2] bcast_S1x20000x2_S8x20000x2_0_1_2
      (broadcastInDim S1x20000x2 ![1, 2] bcast_S20000x2_S1x20000x2_1_2 (extractStridedSlice S20000x2 ![0, 0] P slices_S20000x4_S20000x2_0_0)))
      (mulf (mulf (extractStridedSlice S8x20000x2 ![0, 0, 0] L slices_S8x20000x4_S8x20000x2_0_0_0)
        (broadcastInDim S8x20000x2 ![] bcast_S_S8x20000x2 (constant S_ .f32 0x3DCCCCCD#32))) (rTail P)))
    (Host.divf (rSize L P) (broadcastInDim S8x20000x2 ![] bcast_S_S8x20000x2 (constant S_ .f32 0x40000000#32)))

/-- The decoded boxes. -/
def rBox (L : FVec Ideal S8x20000x4 .f32) (P : FVec Ideal S20000x4 .f32) : FVec Ideal S8x20000x4 .f32 :=
  concatenate S8x20000x4 2 [⟨S8x20000x2, rCorner L P⟩, ⟨S8x20000x2, addf (rCorner L P) (rSize L P)⟩] concatenates_S8x20000x2_S8x20000x2_S8x20000x4_d2

/-- The scores with those at or under the threshold replaced by −∞. -/
def rMask (A : FVec Ideal S160000x81 .f32) : FVec Ideal S8x80x20000 .f32 :=
  select (cmpf .ogt (rScore A) (broadcastInDim S8x80x20000 ![] bcast_S_S8x80x20000 (constant S_ .f32 0x3C23D70A#32))) (rScore A)
    (broadcastInDim S8x80x20000 ![] bcast_S_S8x80x20000 (constant S_ .f32 0xFF800000#32))

/-- The candidates' scores, best first. -/
def rVals (M : FVec Ideal S8x80x20000 .f32) : FVec Ideal S8x80x200 .f32 :=
  (Host.topK S8x80x200 2 (FloatOps.cmpfTotal .gt) M sliceFits_S8x80x20000_S8x80x200).1

/-- The candidates' positions, best first. -/
def rIdx (M : FVec Ideal S8x80x20000 .f32) : IVec S8x80x200 32 :=
  (Host.topK S8x80x200 2 (FloatOps.cmpfTotal .gt) M sliceFits_S8x80x20000_S8x80x200).2

/-- The places in the box array that the candidates are taken from: image and position. -/
def rPlace (I : IVec S8x80x200 32) : IVec S8x80x200x2 32 :=
  concatenate S8x80x200x2 3 [⟨S8x80x200x1, broadcastInDim S8x80x200x1 ![0, 1, 2] bcast_S8x80x200_S8x80x200x1_0_1_2
      (broadcastInDim S8x80x200 ![0, 1, 2] bcast_S8x1x1_S8x80x200_0_1_2
        (select (cmpi .slt (broadcastInDim S8x1x1 ![0] bcast_S8_S8x1x1_0 (iotaInDim S8 32 0)) (broadcastInDim S8x1x1 ![] bcast_S_S8x1x1 (constantI S_ 32 0#32)))
          (addi (broadcastInDim S8x1x1 ![0] bcast_S8_S8x1x1_0 (iotaInDim S8 32 0)) (broadcastInDim S8x1x1 ![] bcast_S_S8x1x1 (constantI S_ 32 8#32)))
          (broadcastInDim S8x1x1 ![0] bcast_S8_S8x1x1_0 (iotaInDim S8 32 0))))⟩,
    ⟨S8x80x200x1, broadcastInDim S8x80x200x1 ![0, 1, 2] bcast_S8x80x200_S8x80x200x1_0_1_2
      (select (cmpi .slt I (broadcastInDim S8x80x200 ![] bcast_S_S8x80x200 (constantI S_ 32 0#32)))
        (addi I (broadcastInDim S8x80x200 ![] bcast_S_S8x80x200 (constantI S_ 32 20000#32))) I)⟩] concatenates_S8x80x200x1_S8x80x200x1_S8x80x200x2_d3

/-- The candidates' boxes. -/
def rCand (B : FVec Ideal S8x20000x4 .f32) (I : IVec S8x80x200 32) : FVec Ideal S8x80x200x4 .f32 :=
  Host.gather gather_S8x20000x4_S8x80x200x2_S8x80x200x4_3_01_n_n_01_3_114 B (rPlace I)

end Cert.ReferenceIdeal.Val
-- ==== Proof.RReadP.lean ====
/- The reference's operations after its loop: the survivors moved to the front, and the result. -/
module

public import proofs.«01_k».proof.Proof.RDef

@[expose] public section

set_option maxRecDepth 16384
noncomputable section
namespace Cert.ReferenceIdeal.Val

open Idealize.ShloMosaic Idealize.ShloMosaic.TcCoe Idealize.SL.Sem
open Cert.ReferenceIdeal Cert.ReferenceIdeal.Gen Cert.ReferenceIdeal.Value Cert.Det

/-- Every candidate's score and box. -/
def rEnt (v : FVec Ideal S8x80x200 .f32) (C : FVec Ideal S8x80x200x4 .f32) : FVec Ideal S8x80x200x5 .f32 :=
  concatenate S8x80x200x5 3 [⟨S8x80x200x1, broadcastInDim S8x80x200x1 ![0, 1, 2] bcast_S8x80x200_S8x80x200x1_0_1_2 v⟩, ⟨S8x80x200x4, C⟩]
    concatenates_S8x80x200x1_S8x80x200x4_S8x80x200x5_d3

/-- The survivors' entries, zero for the others. -/
def rKeep (al : IVec S8x80x200 1) (E : FVec Ideal S8x80x200x5 .f32) : FVec Ideal S8x80x200x5 .f32 :=
  select (broadcastInDim S8x80x200x5 ![0, 1, 2, 3] bcast_S8x80x200x1_S8x80x200x5_0_1_2_3
      (broadcastInDim S8x80x200x1 ![0, 1, 2] bcast_S8x80x200_S8x80x200x1_0_1_2 al)) E
    (broadcastInDim S8x80x200x5 ![] bcast_S_S8x80x200x5 (constant S_ .f32 0x00000000#32))

/-- The running number of survivors. -/
def rRank (al : IVec S8x80x200 1) : IVec S8x80x200 32 :=
  Host.reduceWindow IntOp.addi ![1, 1, 200] ![1, 1, 1] ![0, 0, 199] ![0, 0, 0] (extui 32 al natLt_1_32)
    (broadcastInDim S_ ![] bcast_S_S_ (constantI S_ 32 0#32)) reduceWindows_S8x80x200_S8x80x200_w1s1p0_0_w1s1p0_0_w200s1p199_0 h_S_

/-- The slot a survivor moves to; 200 for the others. -/
def rSlot (al : IVec S8x80x200 1) : IVec S8x80x200 32 :=
  select al (subi (rRank al) (broadcastInDim S8x80x200 ![] bcast_S_S8x80x200 (constantI S_ 32 1#32)))
    (broadcastInDim S8x80x200 ![] bcast_S_S8x80x200 (constantI S_ 32 200#32))

/-- The places of the updates: image, class and slot. -/
def rDest (p : IVec S8x80x200 32) : IVec S8x80x200x3 32 :=
  concatenate S8x80x200x3 3 [⟨S8x80x200x1, broadcastInDim S8x80x200x1 ![0, 1, 2] bcast_S8x80x200_S8x80x200x1_0_1_2
      (broadcastInDim S8x80x200 ![0, 1, 2] bcast_S8x1x1_S8x80x200_0_1_2
        (select (cmpi .slt (broadcastInDim S8x1x1 ![0] bcast_S8_S8x1x1_0 (iotaInDim S8 32 0)) (broadcastInDim S8x1x1 ![] bcast_S_S8x1x1 (constantI S_ 32 0#32)))
          (addi (broadcastInDim S8x1x1 ![0] bcast_S8_S8x1x1_0 (iotaInDim S8 32 0)) (broadcastInDim S8x1x1 ![] bcast_S_S8x1x1 (constantI S_ 32 8#32)))
          (broadcastInDim S8x1x1 ![0] bcast_S8_S8x1x1_0 (iotaInDim S8 32 0))))⟩,
    ⟨S8x80x200x1, broadcastInDim S8x80x200x1 ![0, 1, 2] bcast_S8x80x200_S8x80x200x1_0_1_2
      (broadcastInDim S8x80x200 ![0, 1, 2] bcast_S1x80x1_S8x80x200_0_1_2
        (select (cmpi .slt (broadcastInDim S1x80x1 ![1] bcast_S80_S1x80x1_1 (iotaInDim S80 32 0)) (broadcastInDim S1x80x1 ![] bcast_S_S1x80x1 (constantI S_ 32 0#32)))
          (addi (broadcastInDim S1x80x1 ![1] bcast_S80_S1x80x1_1 (iotaInDim S80 32 0)) (broadcastInDim S1x80x1 ![] bcast_S_S1x80x1 (constantI S_ 32 80#32)))
          (broadcastInDim S1x80x1 ![1] bcast_S80_S1x80x1_1 (iotaInDim S80 32 0))))⟩,
    ⟨S8x80x200x1, broadcastInDim S8x80x200x1 ![0, 1, 2] bcast_S8x80x200_S8x80x200x1_0_1_2
      (select (cmpi .slt p (broadcastInDim S8x80x200 ![] bcast_S_S8x80x200 (constantI S_ 32 0#32)))
        (addi p (broadcastInDim S8x80x200 ![] bcast_S_S8x80x200 (constantI S_ 32 200#32))) p)⟩]
    concatenates_S8x80x200x1_S8x80x200x1_S8x80x200x1_S8x80x200x3_d3

/-- The entries scattered into zeros. -/
def rMoved (p : IVec S8x80x200 32) (E : FVec Ideal S8x80x200x5 .f32) : FVec Ideal S8x80x200x5 .f32 :=
  Host.scatter scatter_S8x80x200x5_S8x80x200x3_S8x80x200x5_3_012_012_3 (fun _ b => b)
    (broadcastInDim S8x80x200x5 ![] bcast_S_S8x80x200x5 (constant S_ .f32 0x00000000#32)) (rDest p) E

/-- The result: zeros for the background, then the moved entries. -/
def rOut (X : FVec Ideal S8x80x200x5 .f32) : FVec Ideal S8x81x200x5 .f32 :=
  concatenate S8x81x200x5 1 [⟨S8x1x200x5, broadcastInDim S8x1x200x5 ![] bcast_S_S8x1x200x5 (constant S_ .f32 0x00000000#32)⟩, ⟨S8x80x200x5, X⟩]
    concatenates_S8x1x200x5_S8x80x200x5_S8x81x200x5_d1

variable (W : Valuation τ sig (Elt Ideal))

/-- The first two stretches after the loop leave the survivors' entries. -/
theorem opsE_v105 : StableHlo.after hostOps0_4 (StableHlo.after hostOps0_3 W) (Proc.devRef .tc main_v105) =
    rKeep (W (Proc.devRef .tc main_v101_4)) (rEnt (W (Proc.devRef .tc main_values)) (W (Proc.devRef .tc main_v46))) := by
  after_results
  simp only [StableHlo.TRef.ofBuf_toBuf]
  dsimp only [StableHlo.TRef.of, StableHlo.TRef.toBuf, StableHlo.TRef.ofBuf]
  simp only [cast_eq, id]
  unfold rKeep rEnt
  rfl

/-- They keep the survivors. -/
theorem opsE_al : StableHlo.after hostOps0_4 (StableHlo.after hostOps0_3 W) (Proc.devRef .tc main_v101_4) = W (Proc.devRef .tc main_v101_4) := by
  after_results

/-- The next four stretches leave the survivors' slots. -/
theorem opsF_v110 : StableHlo.after hostOps0_8 (StableHlo.after hostOps0_7 (StableHlo.after hostOps0_6 (StableHlo.after hostOps0_5 W)))
    (Proc.devRef .tc main_v110) = rSlot (W (Proc.devRef .tc main_v101_4)) := by
  after_results
  simp only [StableHlo.TRef.ofBuf_toBuf]
  dsimp only [StableHlo.TRef.of, StableHlo.TRef.toBuf, StableHlo.TRef.ofBuf]
  simp only [cast_eq, id]
  unfold rSlot rRank
  rfl

/-- They keep the survivors' entries. -/
theorem opsF_v105 : StableHlo.after hostOps0_8 (StableHlo.after hostOps0_7 (StableHlo.after hostOps0_6 (StableHlo.after hostOps0_5 W)))
    (Proc.devRef .tc main_v105) = W (Proc.devRef .tc main_v105) := by
  after_results

/-- The last stretch leaves the result. -/
theorem opsG_v139 : StableHlo.after hostOps0_9 W (Proc.devRef .tc main_v139) =
    rOut (rMoved (W (Proc.devRef .tc main_v110)) (W (Proc.devRef .tc main_v105))) := by
  after_results
  rfl

/-- THE RESULT after the loop, of the loop's survivors and the candidates. -/
theorem post_v139 : StableHlo.afterL postI W (Proc.devRef .tc main_v139) =
    rOut (rMoved (rSlot (W (Proc.devRef .tc main_v101_4)))
      (rKeep (W (Proc.devRef .tc main_v101_4)) (rEnt (W (Proc.devRef .tc main_values)) (W (Proc.devRef .tc main_v46))))) := by
  simp only [postI, StableHlo.afterL_cons, StableHlo.afterL_nil]
  rw [opsG_v139, opsF_v110, opsF_v105, opsE_v105, opsE_al]

end Cert.ReferenceIdeal.Val
-- ==== Proof.RSet.lean ====
/- The reference's gather, scatter and running count, read at an index. -/
module

public import proofs.«01_k».proof.Proof.RReadP
public import proofs.«01_k».proof.Proof.Spec
public import Idealize.ShloMosaic.Lib.Routing.OpsSet
public import Idealize.ShloMosaic.Lib.Routing.OpsPair

@[expose] public section

set_option maxRecDepth 16384
noncomputable section
namespace Cert.ReferenceIdeal.Val

open Idealize.ShloMosaic Idealize.ShloMosaic.TcCoe Idealize.SL.Sem
open Cert.ReferenceIdeal Cert.ReferenceIdeal.Gen Cert.ReferenceIdeal.Value Cert.Det

/-- A small number's word, read signed, is the number. -/
theorem toInt_small (p : ℕ) (h : p < 2147483648) : (BitVec.ofNat 32 p).toInt = (p : ℤ) := by
  rw [BitVec.toInt_eq_toNat_of_lt (by rw [BitVec.toNat_ofNat, Nat.mod_eq_of_lt (by omega)]; omega), BitVec.toNat_ofNat,
    Nat.mod_eq_of_lt (by omega)]

/-- A small number's word is not negative. -/
theorem not_neg (p : ℕ) (h : p < 2147483648) : IntOp.cmpi .slt (BitVec.ofNat 32 p) 0#32 = 0#1 := by
  have h1 := toInt_small p h
  show BitVec.ofBool _ = _
  have : BitVec.slt (BitVec.ofNat 32 p) 0#32 = false := by
    rw [BitVec.slt, h1]
    simp
  first
  | rw [this]; rfl
  | simp [this]

/-- The image of a place. -/
theorem place0 (I : IVec S8x80x200 32) (b : Fin 8) (j : Fin 80) (q : Fin 200) :
    rPlace I (ix4 b j q 0) = BitVec.ofNat 32 b.val := by
  have hb := b.isLt
  pointwise [rPlace]
  simp only [not_neg b.val (by omega)]
  rfl

/-- The position of a place. -/
theorem place1 (I : IVec S8x80x200 32) (b : Fin 8) (j : Fin 80) (q : Fin 200) (p : ℕ) (hp : p < 20000)
    (h : I (ix3 b j q) = BitVec.ofNat 32 p) : rPlace I (ix4 b j q 1) = BitVec.ofNat 32 p := by
  pointwise [rPlace]
  simp only [h, not_neg p (by omega)]
  rfl

/-- The candidates' boxes read at an index. -/
theorem cand_at (B : FVec Ideal S8x20000x4 .f32) (I : IVec S8x80x200 32) (b : Fin 8) (j : Fin 80) (q : Fin 200) (f : Fin 4)
    (p : ℕ) (hp : p < 20000) (h : I (ix3 b j q) = BitVec.ofNat 32 p) : rCand B I (ix4 b j q f) = B (ix3 b ⟨p, hp⟩ f) := by
  have hb := b.isLt
  have h0 := place0 I b j q
  have h1 := place1 I b j q p hp h
  unfold rCand Host.gather
  refine congrArg B (funext fun a => Fin.ext ?_)
  fin_cases a
  · show min (rPlace I (GatherDims.siIdx _ (ix4 b j q f) ⟨0, by decide⟩)).toInt.toNat 7 + 0 + 0 = b.val
    rw [show GatherDims.siIdx gather_S8x20000x4_S8x80x200x2_S8x80x200x4_3_01_n_n_01_3_114 (ix4 b j q f) ⟨0, by decide⟩ = ix4 b j q 0 from
      funext fun a => by fin_cases a <;> rfl, h0, toInt_small _ (by omega), Int.toNat_natCast]
    omega
  · show min (rPlace I (GatherDims.siIdx _ (ix4 b j q f) ⟨1, by decide⟩)).toInt.toNat 19999 + 0 + 0 = p
    rw [show GatherDims.siIdx gather_S8x20000x4_S8x80x200x2_S8x80x200x4_3_01_n_n_01_3_114 (ix4 b j q f) ⟨1, by decide⟩ = ix4 b j q 1 from
      funext fun a => by fin_cases a <;> rfl, h1, toInt_small _ (by omega), Int.toNat_natCast]
    omega
  · show 0 + 0 + f.val = f.val
    omega

end Cert.ReferenceIdeal.Val
-- ==== Proof.RRank.lean ====
/- The running number of survivors, and the slots they move to. -/
module

public import proofs.«01_k».proof.Proof.RReadP
public import proofs.«01_k».proof.Proof.Spec

@[expose] public section

set_option maxRecDepth 16384
noncomputable section
namespace Cert.ReferenceIdeal.Val

open Idealize.ShloMosaic Idealize.ShloMosaic.TcCoe Idealize.SL.Sem
open Cert.ReferenceIdeal Cert.ReferenceIdeal.Gen Cert.ReferenceIdeal.Value Cert.Det

/-- The slots an array of bits marks, for one image and class. -/
def AL (al : IVec S8x80x200 1) (b : Fin 8) (j : Fin 80) (k : ℕ) : Prop := ∃ h : k < 200, al (ix3 b j ⟨k, h⟩) = 1#1

/-- A fold of word additions is the word of the sum. -/
theorem fold_addi {N : ℕ} (t : Fin N → BitVec 32) (f : Fin N → ℕ) (h : ∀ n, t n = BitVec.ofNat 32 (f n)) :
    (List.finRange N).foldl (fun r n => IntOp.addi r (t n)) 0#32 = BitVec.ofNat 32 (∑ n, f n) := by
  have key : ∀ (l : List (Fin N)) (a : ℕ), l.foldl (fun r n => IntOp.addi r (t n)) (BitVec.ofNat 32 a) = BitVec.ofNat 32 (a + (l.map f).sum) := by
    intro l
    induction l with
    | nil => intro a; simp
    | cons n l ih =>
      intro a
      rw [List.foldl_cons, h n, show IntOp.addi (BitVec.ofNat 32 a) (BitVec.ofNat 32 (f n)) = BitVec.ofNat 32 (a + f n) from
        (BitVec.ofNat_add a (f n)).symm, ih, List.map_cons, List.sum_cons, Nat.add_assoc]
  have := key (List.finRange N) 0
  rw [Nat.zero_add] at this
  rw [Fin.sum_univ_def]
  exact this

/-- The window's shape. -/
abbrev WS : Shape := ⟨3, ![1, 1, 200]⟩

open Classical in
/-- What place `x` of the window adds to the running number at slot `q`. -/
def addend (al : IVec S8x80x200 1) (b : Fin 8) (j : Fin 80) (q x : ℕ) : ℕ := if 199 ≤ q + x ∧ AL al b j (q + x - 199) then 1 else 0

/-- The addends of the window sum to the number of survivors so far. -/
theorem addend_sum (al : IVec S8x80x200 1) (b : Fin 8) (j : Fin 80) (q : Fin 200) :
    ∑ x : Fin 200, addend al b j q.val x.val = cnt (AL al b j) q.val := by
  classical
  have hq := q.isLt
  rw [← cnt_sum (AL al b j) 200 q (fun y => if y.val ≤ q.val ∧ AL al b j y.val then 1 else 0)
    (fun y => ⟨fun h => if_pos h, fun h => if_neg h⟩)]
  rw [← Equiv.sum_comp (Equiv.addRight (q + 1)) (fun y : Fin 200 => if y.val ≤ q.val ∧ AL al b j y.val then 1 else 0)]
  refine Finset.sum_congr rfl fun x _ => ?_
  have hx := x.isLt
  have hv : ((x + (q + 1) : Fin 200)).val = (x.val + q.val + 1) % 200 := by
    rw [Fin.val_add, Fin.val_add]; show (x.val + (q.val + 1) % 200) % 200 = _; omega
  show addend al b j q.val x.val = if ((x + (q + 1) : Fin 200)).val ≤ q.val ∧ AL al b j ((x + (q + 1) : Fin 200)).val then 1 else 0
  rw [hv, addend]
  by_cases h : 199 ≤ q.val + x.val
  · have e : (x.val + q.val + 1) % 200 = q.val + x.val - 199 := by omega
    rw [e]
    exact if_congr (and_congr_left fun _ => ⟨fun _ => by omega, fun _ => h⟩) rfl rfl
  · have e : (x.val + q.val + 1) % 200 = x.val + q.val + 1 := by omega
    rw [e, if_neg fun h' => h h'.1, if_neg fun h' => absurd h'.1 (by omega)]

/-- The window's places are its last coordinate. -/
theorem window_sum (g : ℕ → ℕ) : ∑ n : Fin WS.numel, g (WS.rowMajor.symm n 2).val = ∑ x : Fin 200, g x.val := by
  rw [Equiv.sum_comp WS.rowMajor.symm (fun w : WS.Idx => g (w 2).val)]
  refine Fintype.sum_equiv ⟨fun w => w 2, fun x => ix3 0 0 x, fun w => funext fun a => ?_, fun x => rfl⟩ _ _ fun w => rfl
  have h0 : (w 0).val < 1 := (w 0).isLt
  have h1 : (w 1).val < 1 := (w 1).isLt
  fin_cases a
  · exact Fin.ext (by show 0 = (w 0).val; omega)
  · exact Fin.ext (by show 0 = (w 1).val; omega)
  · rfl

/-- THE RUNNING NUMBER of survivors at a slot. -/
theorem rank_at (al : IVec S8x80x200 1) (b : Fin 8) (j : Fin 80) (q : Fin 200) :
    rRank al (ix3 b j q) = BitVec.ofNat 32 (cnt (AL al b j) q.val) := by
  classical
  rw [← addend_sum, ← window_sum fun x => addend al b j q.val x]
  unfold rRank Host.reduceWindow
  refine fold_addi (N := WS.numel) _ _ fun n => ?_
  obtain ⟨w, hw⟩ : ∃ w, WS.rowMajor.symm n = w := ⟨_, rfl⟩
  rw [show WS.rowMajor.symm n 2 = w 2 from congrFun hw 2]
  have h0 : (w 0).val < 1 := (w 0).isLt
  have h1 : (w 1).val < 1 := (w 1).isLt
  have h2 : (w 2).val < 200 := (w 2).isLt
  have hb := b.isLt
  have hj := j.isLt
  have hq := q.isLt
  split
  · next hin =>
    have i2 : 199 ≤ q.val * 1 + (WS.rowMajor.symm n 2).val ∧ q.val * 1 + (WS.rowMajor.symm n 2).val - 199 < 200 := hin 2
    rw [hw] at i2
    have e : (extui 32 al natLt_1_32 : IVec S8x80x200 32) (ix3 b j ⟨q.val + (w 2).val - 199, by omega⟩) = BitVec.ofNat 32 (addend al b j q.val (w 2).val) := by
      show (al (ix3 b j ⟨q.val + (w 2).val - 199, by omega⟩)).setWidth 32 = _
      rw [addend]
      by_cases ha : al (ix3 b j ⟨q.val + (w 2).val - 199, by omega⟩) = 1#1
      · rw [if_pos ⟨by omega, ⟨by omega, ha⟩⟩, ha]; rfl
      · have ha0 : al (ix3 b j ⟨q.val + (w 2).val - 199, by omega⟩) = 0#1 := by
          rcases BitVec.eq_zero_or_eq_one (al (ix3 b j ⟨q.val + (w 2).val - 199, by omega⟩)) with h | h
          · exact h
          · exact absurd h ha
        rw [if_neg fun h => ha h.2.2, ha0]; rfl
    rw [← e]
    refine congrArg (extui 32 al natLt_1_32 : IVec S8x80x200 32) (funext fun a => Fin.ext ?_)
    fin_cases a
    · show b.val * 1 + (WS.rowMajor.symm n 0).val - 0 = b.val; rw [hw]; omega
    · show j.val * 1 + (WS.rowMajor.symm n 1).val - 0 = j.val; rw [hw]; omega
    · show q.val * 1 + (WS.rowMajor.symm n 2).val - 199 = q.val + (w 2).val - 199; rw [hw]; omega
  · next hin =>
    rw [addend, if_neg]
    · rfl
    · rintro ⟨h, hk, -⟩
      refine hin fun a => ?_
      fin_cases a
      · show 0 ≤ b.val * 1 + (WS.rowMajor.symm n 0).val ∧ b.val * 1 + (WS.rowMajor.symm n 0).val - 0 < 8; rw [hw]; omega
      · show 0 ≤ j.val * 1 + (WS.rowMajor.symm n 1).val ∧ j.val * 1 + (WS.rowMajor.symm n 1).val - 0 < 80; rw [hw]; omega
      · show 199 ≤ q.val * 1 + (WS.rowMajor.symm n 2).val ∧ q.val * 1 + (WS.rowMajor.symm n 2).val - 199 < 200; rw [hw]; omega

/-- A survivor's slot is the number of survivors before it. -/
theorem slot_alive (al : IVec S8x80x200 1) (b : Fin 8) (j : Fin 80) (q : Fin 200) (h : al (ix3 b j q) = 1#1) :
    rSlot al (ix3 b j q) = BitVec.ofNat 32 (cnt (AL al b j) q.val - 1) := by
  have hp : 0 < cnt (AL al b j) q.val := cnt_pos ⟨q.isLt, h⟩
  have hr := rank_at al b j q
  pointwise [rSlot]
  rw [h, hr]
  show IntOp.subi (BitVec.ofNat 32 (cnt (AL al b j) q.val)) 1#32 = _
  obtain ⟨c, hc⟩ : ∃ c, cnt (AL al b j) q.val = c + 1 := ⟨_, (Nat.sub_add_cancel hp).symm⟩
  rw [hc, Nat.add_sub_cancel]
  show BitVec.ofNat 32 (c + 1) - BitVec.ofNat 32 1 = _
  rw [BitVec.ofNat_add, BitVec.add_sub_cancel]

/-- The others' slot is past the last. -/
theorem slot_dead (al : IVec S8x80x200 1) (b : Fin 8) (j : Fin 80) (q : Fin 200) (h : al (ix3 b j q) ≠ 1#1) :
    rSlot al (ix3 b j q) = BitVec.ofNat 32 200 := by
  pointwise [rSlot]
  exact if_neg h

end Cert.ReferenceIdeal.Val
-- ==== Proof.RMove.lean ====
/- The reference's compaction read at an index. -/
module

public import proofs.«01_k».proof.Proof.RSet
public import proofs.«01_k».proof.Proof.RRank

@[expose] public section

set_option maxRecDepth 16384
noncomputable section
namespace Cert.ReferenceIdeal.Val

open Idealize.ShloMosaic Idealize.ShloMosaic.TcCoe Idealize.SL.Sem
open Cert.ReferenceIdeal Cert.ReferenceIdeal.Gen Cert.ReferenceIdeal.Value Cert.Det

/-- The image of an update's place. -/
theorem dest0 (P : IVec S8x80x200 32) (b : Fin 8) (j : Fin 80) (q : Fin 200) : rDest P (ix4 b j q 0) = BitVec.ofNat 32 b.val := by
  have hb := b.isLt
  pointwise [rDest]
  simp only [not_neg b.val (by omega)]
  rfl

/-- The class of an update's place. -/
theorem dest1 (P : IVec S8x80x200 32) (b : Fin 8) (j : Fin 80) (q : Fin 200) : rDest P (ix4 b j q 1) = BitVec.ofNat 32 j.val := by
  have hb := j.isLt
  pointwise [rDest]
  simp only [not_neg j.val (by omega)]
  rfl

/-- The slot of an update's place. -/
theorem dest2 (P : IVec S8x80x200 32) (b : Fin 8) (j : Fin 80) (q : Fin 200) (v : ℕ) (hv : v ≤ 200) (h : P (ix3 b j q) = BitVec.ofNat 32 v) :
    rDest P (ix4 b j q 2) = BitVec.ofNat 32 v := by
  pointwise [rDest]
  simp only [h, not_neg v (by omega)]
  rfl

/-- Where an update lands. -/
theorem lands (P : IVec S8x80x200 32) (b' : Fin 8) (j' : Fin 80) (q' : Fin 200) (f' : Fin 5) (b : Fin 8) (j : Fin 80) (p : Fin 200) (f : Fin 5)
    (v : ℕ) (hv : v ≤ 200) (h : P (ix3 b' j' q') = BitVec.ofNat 32 v) :
    scatter_S8x80x200x5_S8x80x200x3_S8x80x200x5_3_012_012_3.resultIdx? (ix4 b' j' q' f') (rDest P) = some (ix4 b j p f) ↔
      b' = b ∧ j' = j ∧ v = p.val ∧ f' = f := by
  have hb := b'.isLt
  have hj := j'.isLt
  have h0 := dest0 P b' j' q'
  have h1 := dest1 P b' j' q'
  have h2 := dest2 P b' j' q' v hv h
  have e0 : scatter_S8x80x200x5_S8x80x200x3_S8x80x200x5_3_012_012_3.start (ix4 b' j' q' f') (rDest P) 0 = (b'.val : ℤ) := by
    rw [← toInt_small b'.val (by omega), ← h0]
    show (rDest P (ScatterDims.siIdx _ (ix4 b' j' q' f') ⟨0, by decide⟩)).toInt = _
    rw [show ScatterDims.siIdx scatter_S8x80x200x5_S8x80x200x3_S8x80x200x5_3_012_012_3 (ix4 b' j' q' f') ⟨0, by decide⟩ = ix4 b' j' q' 0 from
      funext fun a => by fin_cases a <;> rfl]
  have e1 : scatter_S8x80x200x5_S8x80x200x3_S8x80x200x5_3_012_012_3.start (ix4 b' j' q' f') (rDest P) 1 = (j'.val : ℤ) := by
    rw [← toInt_small j'.val (by omega), ← h1]
    show (rDest P (ScatterDims.siIdx _ (ix4 b' j' q' f') ⟨1, by decide⟩)).toInt = _
    rw [show ScatterDims.siIdx scatter_S8x80x200x5_S8x80x200x3_S8x80x200x5_3_012_012_3 (ix4 b' j' q' f') ⟨1, by decide⟩ = ix4 b' j' q' 1 from
      funext fun a => by fin_cases a <;> rfl]
  have e2 : scatter_S8x80x200x5_S8x80x200x3_S8x80x200x5_3_012_012_3.start (ix4 b' j' q' f') (rDest P) 2 = (v : ℤ) := by
    rw [← toInt_small v (by omega), ← h2]
    show (rDest P (ScatterDims.siIdx _ (ix4 b' j' q' f') ⟨2, by decide⟩)).toInt = _
    rw [show ScatterDims.siIdx scatter_S8x80x200x5_S8x80x200x3_S8x80x200x5_3_012_012_3 (ix4 b' j' q' f') ⟨2, by decide⟩ = ix4 b' j' q' 2 from
      funext fun a => by fin_cases a <;> rfl]
  have e3 : scatter_S8x80x200x5_S8x80x200x3_S8x80x200x5_3_012_012_3.start (ix4 b' j' q' f') (rDest P) 3 = 0 := rfl
  have w0 : scatter_S8x80x200x5_S8x80x200x3_S8x80x200x5_3_012_012_3.window (ix4 b' j' q' f') 0 = 0 := rfl
  have w1 : scatter_S8x80x200x5_S8x80x200x3_S8x80x200x5_3_012_012_3.window (ix4 b' j' q' f') 1 = 0 := rfl
  have w2 : scatter_S8x80x200x5_S8x80x200x3_S8x80x200x5_3_012_012_3.window (ix4 b' j' q' f') 2 = 0 := rfl
  have w3 : scatter_S8x80x200x5_S8x80x200x3_S8x80x200x5_3_012_012_3.window (ix4 b' j' q' f') 3 = f'.val := rfl
  rw [Routing.resultIdx?_eq_some]
  constructor
  · intro ha
    have a0 : _ = ((b.val : ℕ) : ℤ) := ha 0
    have a1 : _ = ((j.val : ℕ) : ℤ) := ha 1
    have a2 : _ = ((p.val : ℕ) : ℤ) := ha 2
    have a3 : _ = ((f.val : ℕ) : ℤ) := ha 3
    rw [e0, w0] at a0
    rw [e1, w1] at a1
    rw [e2, w2] at a2
    rw [e3, w3] at a3
    exact ⟨Fin.ext (by omega), Fin.ext (by omega), by omega, Fin.ext (by omega)⟩
  · rintro ⟨rfl, rfl, hp, rfl⟩ a
    fin_cases a
    · refine Eq.trans (congrArg₂ (fun (x : ℤ) (y : ℕ) => x + (y : ℤ)) e0 w0) ?_
      show (b'.val : ℤ) + ((0 : ℕ) : ℤ) = (b'.val : ℤ); omega
    · refine Eq.trans (congrArg₂ (fun (x : ℤ) (y : ℕ) => x + (y : ℤ)) e1 w1) ?_
      show (j'.val : ℤ) + ((0 : ℕ) : ℤ) = (j'.val : ℤ); omega
    · refine Eq.trans (congrArg₂ (fun (x : ℤ) (y : ℕ) => x + (y : ℤ)) e2 w2) ?_
      show (v : ℤ) + ((0 : ℕ) : ℤ) = (p.val : ℤ); omega
    · refine Eq.trans (congrArg₂ (fun (x : ℤ) (y : ℕ) => x + (y : ℤ)) e3 w3) ?_
      show (0 : ℤ) + (f'.val : ℤ) = (f'.val : ℤ); omega

/-- Every slot is the word of a number: of the survivors before it, or past the last. -/
theorem slot_cases (al : IVec S8x80x200 1) (b : Fin 8) (j : Fin 80) (q : Fin 200) :
    ∃ v, v ≤ 200 ∧ rSlot al (ix3 b j q) = BitVec.ofNat 32 v ∧
      ((AL al b j q.val ∧ v + 1 = cnt (AL al b j) q.val) ∨ (¬ AL al b j q.val ∧ v = 200)) := by
  by_cases h : al (ix3 b j q) = 1#1
  · have ha : AL al b j q.val := ⟨q.isLt, h⟩
    have hp := cnt_pos ha
    have hl := cnt_le (AL al b j) q.val
    have hq := q.isLt
    exact ⟨_, by omega, slot_alive al b j q h, Or.inl ⟨ha, by omega⟩⟩
  · exact ⟨200, le_rfl, slot_dead al b j q h, Or.inr ⟨fun ⟨_, ha⟩ => h ha, rfl⟩⟩

/-- An index by its coordinates. -/
theorem eta4 (k : S8x80x200x5.Idx) : ∃ (b : Fin 8) (j : Fin 80) (q : Fin 200) (f : Fin 5), k = ix4 b j q f :=
  ⟨k 0, k 1, k 2, k 3, funext fun a => by fin_cases a <;> rfl⟩

/-- THE COMPACTION: place `p` holds the entry of the survivor counted `p + 1`, or zero. -/
theorem moved_isOut (al : IVec S8x80x200 1) (E : FVec Ideal S8x80x200x5 .f32) (b : Fin 8) (j : Fin 80) (p : Fin 200) (f : Fin 5)
    (val : ℕ → EReal) (hval : ∀ q : Fin 200, AL al b j q.val → E (ix4 b j q f) = val q.val) :
    IsOut (AL al b j) val p.val (rMoved (rSlot al) E (ix4 b j p f)) where
  hit k hk hc := by
    have hk200 : k < 200 := hk.1
    unfold rMoved
    refine Routing.scatter_set_hit _ _ _ _ _ (val k) ?_ (ix4 b j ⟨k, hk200⟩ f) ?_
    · intro i hi
      obtain ⟨b', j', q', f', rfl⟩ := eta4 i
      obtain ⟨v, hv, hs, hcase⟩ := slot_cases al b' j' q'
      obtain ⟨rfl, rfl, hp, rfl⟩ := (lands _ b' j' q' f' b j p f v hv hs).1 hi
      have hpl := p.isLt
      rcases hcase with ⟨ha, hcv⟩ | ⟨_, h200⟩
      · have : q'.val = k := cnt_inj ha hk (by omega)
        rw [hval q' ha, this]
      · omega
    · obtain ⟨v, hv, hs, hcase⟩ := slot_cases al b j ⟨k, hk200⟩
      refine (lands _ b j ⟨k, hk200⟩ f b j p f v hv hs).2 ⟨rfl, rfl, ?_, rfl⟩
      rcases hcase with ⟨_, hcv⟩ | ⟨hn, _⟩
      · have : cnt (AL al b j) (⟨k, hk200⟩ : Fin 200).val = p.val + 1 := hc
        omega
      · exact absurd hk hn
  miss hm := by
    unfold rMoved
    rw [Routing.scatter_set_miss]
    · pointwise
    · intro i hi
      obtain ⟨b', j', q', f', rfl⟩ := eta4 i
      obtain ⟨v, hv, hs, hcase⟩ := slot_cases al b' j' q'
      obtain ⟨rfl, rfl, hp, rfl⟩ := (lands _ b' j' q' f' b j p f v hv hs).1 hi
      have hpl := p.isLt
      rcases hcase with ⟨ha, hcv⟩ | ⟨_, h200⟩
      · exact hm q'.val ha (by omega)
      · omega

/-- A survivor's entry: its score. -/
theorem keep_at (al : IVec S8x80x200 1) (v : FVec Ideal S8x80x200 .f32) (C : FVec Ideal S8x80x200x4 .f32) (b : Fin 8) (j : Fin 80) (q : Fin 200)
    (h : al (ix3 b j q) = 1#1) (f : Fin 5) : rKeep al (rEnt v C) (ix4 b j q f) =
      if h0 : f.val = 0 then v (ix3 b j q) else C (ix4 b j q ⟨f.val - 1, by have := f.isLt; omega⟩) := by
  have hf := f.isLt
  fin_cases f
  · pointwise [rKeep, rEnt]
    rw [h]; rfl
  · pointwise [rKeep, rEnt]
    rw [h]; rfl
  · pointwise [rKeep, rEnt]
    rw [h]; rfl
  · pointwise [rKeep, rEnt]
    rw [h]; rfl
  · pointwise [rKeep, rEnt]
    rw [h]; rfl

/-- The result's background is zero. -/
theorem out_zero (X : FVec Ideal S8x80x200x5 .f32) (b : Fin 8) (q : Fin 200) (f : Fin 5) : rOut X (ix4 b 0 q f) = 0 := by
  pointwise [rOut]

/-- The result's foreground. -/
theorem out_succ (X : FVec Ideal S8x80x200x5 .f32) (b : Fin 8) (j : Fin 80) (q : Fin 200) (f : Fin 5) (h : j.val + 1 < 81) :
    rOut X (ix4 b ⟨j.val + 1, h⟩ q f) = X (ix4 b j q f) := by
  pointwise [rOut]
  rw [dif_neg (by omega)]
  simp only [Nat.add_sub_cancel]

end Cert.ReferenceIdeal.Val
-- ==== Proof.RReadB.lean ====
/- The reference's operations from the masked scores to the candidates. -/
module

public import proofs.«01_k».proof.Proof.RDef

@[expose] public section

set_option maxRecDepth 16384
noncomputable section
namespace Cert.ReferenceIdeal.Val

open Idealize.ShloMosaic Idealize.ShloMosaic.TcCoe Idealize.SL.Sem
open Cert.ReferenceIdeal Cert.ReferenceIdeal.Gen Cert.Det

variable (W : Valuation τ sig (Elt Ideal))

/-- What the first two stretches leave as masked scores. -/
theorem opsAB_v29 : StableHlo.after hostOps0_1 (StableHlo.after hostOps0 W) (Proc.devRef .tc main_v29) = rMask (W (Proc.devRef .tc main_arg1)) := by
  after_results
  simp only [StableHlo.TRef.ofBuf_toBuf]
  dsimp only [StableHlo.TRef.of, StableHlo.TRef.toBuf, StableHlo.TRef.ofBuf]
  simp only [cast_eq, id]
  unfold rMask
  rfl

/-- The operations from the masked scores to the candidates' boxes. -/
abbrev opsC : List (HloOp τ sig (Elt Ideal)) := hostOps0_2.take 23
/-- The operations from the candidates' boxes to the loop's entry. -/
abbrev opsD : List (HloOp τ sig (Elt Ideal)) := hostOps0_2.drop 23

/-- The third stretch is the two runs one after the other. -/
theorem opsCD (r : DevRef τ sig) : StableHlo.after hostOps0_2 W r = StableHlo.after opsD (StableHlo.after opsC W) r := by
  rw [← StableHlo.after_append, List.take_append_drop]

/-- The candidates' scores. -/
theorem opsC_values : StableHlo.after opsC W (Proc.devRef .tc main_values) = rVals (W (Proc.devRef .tc main_v29)) := by
  unfold opsC
  dsimp only [hostOps0_2, List.take]
  after_results
  rfl

/-- The candidates' boxes. -/
theorem opsC_v46 : StableHlo.after opsC W (Proc.devRef .tc main_v46) =
    rCand (W (Proc.devRef .tc main_v26)) (rIdx (W (Proc.devRef .tc main_v29))) := by
  unfold opsC
  dsimp only [hostOps0_2, List.take]
  after_results
  rfl

end Cert.ReferenceIdeal.Val
-- ==== Proof.RReadC.lean ====
/- The overlap plane, the slots and the candidates' validity, and what the third stretch leaves for the loop. -/
module

public import proofs.«01_k».proof.Proof.RReadB

@[expose] public section

set_option maxRecDepth 16384
noncomputable section
namespace Cert.ReferenceIdeal.Val

open Idealize.ShloMosaic Idealize.ShloMosaic.TcCoe Idealize.SL.Sem
open Cert.ReferenceIdeal Cert.ReferenceIdeal.Gen Cert.Det

/-- Coordinate `o` of every candidate's box. -/
def rComp (o : ℕ) (C : FVec Ideal S8x80x200x4 .f32) (h : S8x80x200x4.Slices ![0, 0, 0, o] S8x80x200x1) : FVec Ideal S8x80x200 .f32 :=
  shapeCast S8x80x200 (extractStridedSlice S8x80x200x1 ![0, 0, 0, o] C h) shapeCasts_S8x80x200x1_S8x80x200

/-- A candidate's number repeated along the second candidate's axis. -/
def rRow (x : FVec Ideal S8x80x200 .f32) : FVec Ideal S8x80x200x200 .f32 :=
  broadcastInDim S8x80x200x200 ![0, 1, 2, 3] bcast_S8x80x200x1_S8x80x200x200_0_1_2_3
    (broadcastInDim S8x80x200x1 ![0, 1, 2] bcast_S8x80x200_S8x80x200x1_0_1_2 x)

/-- A candidate's number repeated along the first candidate's axis. -/
def rCol (x : FVec Ideal S8x80x200 .f32) : FVec Ideal S8x80x200x200 .f32 :=
  broadcastInDim S8x80x200x200 ![0, 1, 2, 3] bcast_S8x80x1x200_S8x80x200x200_0_1_2_3
    (broadcastInDim S8x80x1x200 ![0, 1, 3] bcast_S8x80x200_S8x80x1x200_0_1_3 x)

/-- The zero of every two candidates. -/
def rZero2 : FVec Ideal S8x80x200x200 .f32 := broadcastInDim S8x80x200x200 ![] bcast_S_S8x80x200x200 (constant S_ .f32 0x00000000#32)

/-- The zero of every candidate. -/
def rZero1 : FVec Ideal S8x80x200 .f32 := broadcastInDim S8x80x200 ![] bcast_S_S8x80x200 (constant S_ .f32 0x00000000#32)

/-- The overlap of every two candidates' intervals. -/
def rSpan (lo hi : FVec Ideal S8x80x200 .f32) : FVec Ideal S8x80x200x200 .f32 :=
  maximumf (subf (minimumf (rRow hi) (rCol hi)) (maximumf (rRow lo) (rCol lo))) rZero2

/-- The candidates' areas. -/
def rArea (a b c d : FVec Ideal S8x80x200 .f32) : FVec Ideal S8x80x200 .f32 :=
  mulf (maximumf (subf c a) rZero1) (maximumf (subf d b) rZero1)

/-- The overlap of every two candidates, of their four coordinates. -/
def rIou (a b c d : FVec Ideal S8x80x200 .f32) : FVec Ideal S8x80x200x200 .f32 :=
  Host.divf (mulf (rSpan a c) (rSpan b d))
    (maximumf (subf (addf (rRow (rArea a b c d)) (rCol (rArea a b c d))) (mulf (rSpan a c) (rSpan b d)))
      (broadcastInDim S8x80x200x200 ![] bcast_S_S8x80x200x200 (constant S_ .f32 0x2B8CBCCC#32)))

/-- The overlap of every two candidates. -/
def rPlane (C : FVec Ideal S8x80x200x4 .f32) : FVec Ideal S8x80x200x200 .f32 :=
  rIou (rComp 0 C slices_S8x80x200x4_S8x80x200x1_0_0_0_0) (rComp 1 C slices_S8x80x200x4_S8x80x200x1_0_0_0_1)
    (rComp 2 C slices_S8x80x200x4_S8x80x200x1_0_0_0_2) (rComp 3 C slices_S8x80x200x4_S8x80x200x1_0_0_0_3)

/-- Which candidates are over the threshold. -/
def rValid (v : FVec Ideal S8x80x200 .f32) : IVec S8x80x200 1 :=
  cmpf .ogt v (broadcastInDim S8x80x200 ![] bcast_S_S8x80x200 (constant S_ .f32 0x3C23D70A#32))

variable (W : Valuation τ sig (Elt Ideal))

/-- The overlap plane at the loop's entry. -/
theorem opsD_0 : StableHlo.after opsD W (Proc.devRef .tc main_v101_0) = rPlane (W (Proc.devRef .tc main_v46)) := by
  unfold opsD
  dsimp only [hostOps0_2, List.drop]
  after_results
  rfl

/-- The slots' numbers at the loop's entry. -/
theorem opsD_1 : StableHlo.after opsD W (Proc.devRef .tc main_v101_1) = iotaInDim S200 32 0 := by
  unfold opsD
  dsimp only [hostOps0_2, List.drop]
  after_results
  rfl

/-- The slot counter at the loop's entry. -/
theorem opsD_3 : StableHlo.after opsD W (Proc.devRef .tc main_v101_3) = constantI S_ 32 0#32 := by
  unfold opsD
  dsimp only [hostOps0_2, List.drop]
  after_results
  rfl

/-- The survivors at the loop's entry: the valid candidates. -/
theorem opsD_4 : StableHlo.after opsD W (Proc.devRef .tc main_v101_4) = rValid (W (Proc.devRef .tc main_values)) := by
  unfold opsD
  dsimp only [hostOps0_2, List.drop]
  after_results
  rfl

/-- The candidates' scores are kept. -/
theorem opsD_values : StableHlo.after opsD W (Proc.devRef .tc main_values) = W (Proc.devRef .tc main_values) := by
  unfold opsD
  dsimp only [hostOps0_2, List.drop]
  after_results

/-- The candidates' boxes are kept. -/
theorem opsD_v46 : StableHlo.after opsD W (Proc.devRef .tc main_v46) = W (Proc.devRef .tc main_v46) := by
  unfold opsD
  dsimp only [hostOps0_2, List.drop]
  after_results

end Cert.ReferenceIdeal.Val
-- ==== Proof.RBoxV.lean ====
/- The reference's decoded boxes, overlaps and validity, read at an index. -/
module

public import proofs.«01_k».proof.Proof.RReadC
public import proofs.«01_k».proof.Proof.Spec
public import proofs.«01_k».proof.Proof.KBlk

@[expose] public section

set_option maxRecDepth 16384
noncomputable section
namespace Cert.ReferenceIdeal.Val

open Idealize.ShloMosaic Idealize.ShloMosaic.TcCoe Idealize.SL.Sem
open Cert.ReferenceIdeal Cert.ReferenceIdeal.Gen Cert.Det
open Cert.KernelIdeal.Val (scF loF prF msF)

/-- A bit is set just when its truth value is true. -/
theorem ofBool_one (c : Bool) : BitVec.ofBool c = 1#1 ↔ c = true := by cases c <;> decide

/-- Half a number. -/
theorem half_eq (x : EReal) : Ideal.div x (Ideal.ofBits FTy.f32 0x40000000#32) = x * Ideal.ofBits FTy.f32 1056964608#32 := by
  rw [bits_two, bits_half, Ideal.div_coe (by norm_num)]

/-- The decoded boxes read at an index. -/
theorem box_at (L : FVec Ideal S8x20000x4 .f32) (P : FVec Ideal S20000x4 .f32) (b : Fin 8) (p : Fin 20000) (f : Fin 4) :
    rBox L P (ix3 b p f) = dec (loF L b) (prF P) f.val p.val := by
  have hp := p.isLt
  have el : ∀ (f : ℕ) (hf : f < 4), loF L b f p.val = L (ix3 b p ⟨f, hf⟩) := fun f hf => by rw [loF, dif_pos ⟨hp, hf⟩]
  have ep : ∀ (f : ℕ) (hf : f < 4), prF P f p.val = P (ix2 p ⟨f, hf⟩) := fun f hf => by rw [prF, dif_pos ⟨hp, hf⟩]
  have hs : ∀ a : Fin 2, rSize L P (ix3 b p a) = prF P (a.val + 2) p.val * Ideal.exp (loF L b (a.val + 2) p.val * Ideal.ofBits FTy.f32 1045220557#32) := by
    intro a
    have := a.isLt
    rw [el (a.val + 2) (by omega), ep (a.val + 2) (by omega)]
    pointwise [rSize, rTail]
    simp only [Nat.add_comm 2 a.val]
  have hc : ∀ a : Fin 2, rCorner L P (ix3 b p a) = prF P a.val p.val + loF L b a.val p.val * Ideal.ofBits FTy.f32 1036831949#32 * prF P (a.val + 2) p.val
      - rSize L P (ix3 b p a) * Ideal.ofBits FTy.f32 1056964608#32 := by
    intro a
    have := a.isLt
    rw [el a.val (by omega), ep (a.val + 2) (by omega), ep a.val (by omega)]
    rw [← half_eq]
    pointwise [rCorner, rTail]
    simp only [Nat.add_comm 2 a.val]
  have h0 := hs 0
  have h1 := hs 1
  have c0 := hc 0
  have c1 := hc 1
  rw [h0] at c0
  rw [h1] at c1
  fin_cases f
  · refine Eq.trans ?_ c0
    pointwise [rBox]
  · refine Eq.trans ?_ c1
    pointwise [rBox]
  · refine Eq.trans (b := rCorner L P (ix3 b p 0) + rSize L P (ix3 b p 0)) ?_ (by rw [c0, h0]; rfl)
    pointwise [rBox]
  · refine Eq.trans (b := rCorner L P (ix3 b p 1) + rSize L P (ix3 b p 1)) ?_ (by rw [c1, h1]; rfl)
    pointwise [rBox]

/-- The overlap plane read at an index. -/
theorem plane_at (C : FVec Ideal S8x80x200x4 .f32) (b : Fin 8) (j : Fin 80) (k q : Fin 200) :
    rPlane C (ix4 b j k q) = iouF (C (ix4 b j k 0)) (C (ix4 b j k 1)) (C (ix4 b j k 2)) (C (ix4 b j k 3))
      (C (ix4 b j q 0)) (C (ix4 b j q 1)) (C (ix4 b j q 2)) (C (ix4 b j q 3)) := by
  pointwise [rPlane, rIou, rSpan, rArea, rRow, rCol, rZero1, rZero2, rComp]
  rfl

/-- The candidates' validity read at an index. -/
theorem valid_at (v : FVec Ideal S8x80x200 .f32) (b : Fin 8) (j : Fin 80) (q : Fin 200) :
    rValid v (ix3 b j q) = 1#1 ↔ Ideal.ofBits FTy.f32 0x3C23D70A#32 < v (ix3 b j q) := by
  pointwise [rValid]
  rw [ofBool_one, decide_eq_true_iff]

end Cert.ReferenceIdeal.Val
-- ==== Proof.RLoopA.lean ====
/- One trip of the reference's suppression loop, read at an index. -/
module

public import proofs.«01_k».proof.Proof.RMove
public import proofs.«01_k».proof.Proof.RBoxV

@[expose] public section

set_option maxRecDepth 16384
noncomputable section
namespace Cert.ReferenceIdeal.Val

open Idealize.ShloMosaic Idealize.ShloMosaic.TcCoe Idealize.SL.Sem
open Cert.ReferenceIdeal Cert.ReferenceIdeal.Gen Cert.ReferenceIdeal.Value Cert.Det

/-- The slot number, wrapped if negative. -/
def rPick (i : IVec S_ 32) : IVec S_ 32 :=
  select (cmpi .slt i (constantI S_ 32 0#32)) (addi (id i) (constantI S_ 32 200#32)) i

/-- The overlaps of one slot with every slot. -/
def rRowK (Pl : FVec Ideal S8x80x200x200 .f32) (i : IVec S_ 32) : FVec Ideal S8x80x200 .f32 :=
  shapeCast S8x80x200 (Host.dynamicSlice S8x80x1x200 Pl
    (fun k => (((![constantI S_ 32 0#32, constantI S_ 32 0#32, rPick i, constantI S_ 32 0#32] : Fin 4 → IVec S_ 32)) k (Shape.Idx.first h_S_)).toInt)
    sliceFits_S8x80x200x200_S8x80x1x200) shapeCasts_S8x80x1x200_S8x80x200

/-- Whether one slot is alive, for every class. -/
def rAlK (al : IVec S8x80x200 1) (i : IVec S_ 32) : IVec S8x80x1 1 :=
  Host.dynamicSlice S8x80x1 al
    (fun k => (((![constantI S_ 32 0#32, constantI S_ 32 0#32, rPick i] : Fin 3 → IVec S_ 32)) k (Shape.Idx.first h_S_)).toInt)
    sliceFits_S8x80x200_S8x80x1

/-- One trip's survivors. -/
def rTrip (Pl : FVec Ideal S8x80x200x200 .f32) (ar : IVec S200 32) (i : IVec S_ 32) (al : IVec S8x80x200 1) : IVec S8x80x200 1 :=
  andi al (noti (andi (andi (cmpf .ogt (rRowK Pl i) (broadcastInDim S8x80x200 ![] bcast_S_S8x80x200 (constant S_ .f32 0x3EE66666#32)))
    (broadcastInDim S8x80x200 ![0, 1, 2] bcast_S8x80x1_S8x80x200_0_1_2 (rAlK al i)))
    (broadcastInDim S8x80x200 ![0, 1, 2] bcast_S1x1x200_S8x80x200_0_1_2 (broadcastInDim S1x1x200 ![2] bcast_S200_S1x1x200_2
      (cmpi .sgt ar (broadcastInDim S200 ![] bcast_S_S200 (id i)))))))

/-- The generated trip is this one. -/
theorem step_eq (V : Valuation τ sig (Elt Ideal)) : step_main_v101_4 V =
    rTrip (V (Proc.devRef .tc main_v101_0)) (V (Proc.devRef .tc main_v101_1)) (V (Proc.devRef .tc main_v101_3)) (V (Proc.devRef .tc main_v101_4)) := rfl

/-- The wrapped slot number is the slot number. -/
theorem pick_at (k : ℕ) (hk : k < 200) (x : S_.Idx) : rPick (fun _ => BitVec.ofNat 32 k) x = BitVec.ofNat 32 k := by
  unfold rPick
  show Scalar.select (IntOp.cmpi .slt (BitVec.ofNat 32 k) 0#32) _ _ = _
  rw [not_neg k (by omega)]
  rfl

/-- The overlaps of slot `k`. -/
theorem rowK_at (Pl : FVec Ideal S8x80x200x200 .f32) (k : ℕ) (hk : k < 200) (b : Fin 8) (j : Fin 80) (q : Fin 200) :
    rRowK Pl (fun _ => BitVec.ofNat 32 k) (ix3 b j q) = Pl (ix4 b j ⟨k, hk⟩ q) := by
  unfold rRowK
  have key : ∀ (st : Fin 4 → ℤ), st 0 = 0 → st 1 = 0 → st 2 = (k : ℤ) → st 3 = 0 →
      Host.dynamicSlice S8x80x1x200 Pl st sliceFits_S8x80x200x200_S8x80x1x200 (ix4 b j 0 q) = Pl (ix4 b j ⟨k, hk⟩ q) := by
    intro st h0 h1 h2 h3
    unfold Host.dynamicSlice extractStridedSlice
    refine congrArg Pl (funext fun a => Fin.ext ?_)
    fin_cases a
    · show (min (max (st 0) 0) ((0 : ℕ) : ℤ)).toNat + b.val = b.val; rw [h0]; simp
    · show (min (max (st 1) 0) ((0 : ℕ) : ℤ)).toNat + j.val = j.val; rw [h1]; simp
    · show (min (max (st 2) 0) ((199 : ℕ) : ℤ)).toNat + 0 = k; rw [h2]; omega
    · show (min (max (st 3) 0) ((0 : ℕ) : ℤ)).toNat + q.val = q.val; rw [h3]; simp
  have h := key (fun a => (((![constantI S_ 32 0#32, constantI S_ 32 0#32, rPick (fun _ => BitVec.ofNat 32 k), constantI S_ 32 0#32] : Fin 4 → IVec S_ 32)) a (Shape.Idx.first h_S_)).toInt)
    rfl rfl (by
      show (rPick (fun _ => BitVec.ofNat 32 k) (Shape.Idx.first h_S_)).toInt = _
      rw [pick_at k hk, toInt_small k (by omega)]) rfl
  rw [← h]
  generalize Host.dynamicSlice S8x80x1x200 Pl _ _ = D
  pointwise

/-- Whether slot `k` is alive. -/
theorem alK_at (al : IVec S8x80x200 1) (k : ℕ) (hk : k < 200) (b : Fin 8) (j : Fin 80) :
    rAlK al (fun _ => BitVec.ofNat 32 k) (ix3 b j 0) = al (ix3 b j ⟨k, hk⟩) := by
  unfold rAlK
  have key : ∀ (st : Fin 3 → ℤ), st 0 = 0 → st 1 = 0 → st 2 = (k : ℤ) →
      Host.dynamicSlice S8x80x1 al st sliceFits_S8x80x200_S8x80x1 (ix3 b j 0) = al (ix3 b j ⟨k, hk⟩) := by
    intro st h0 h1 h2
    unfold Host.dynamicSlice extractStridedSlice
    refine congrArg al (funext fun a => Fin.ext ?_)
    fin_cases a
    · show (min (max (st 0) 0) ((0 : ℕ) : ℤ)).toNat + b.val = b.val; rw [h0]; simp
    · show (min (max (st 1) 0) ((0 : ℕ) : ℤ)).toNat + j.val = j.val; rw [h1]; simp
    · show (min (max (st 2) 0) ((199 : ℕ) : ℤ)).toNat + 0 = k; rw [h2]; omega
  exact key _ rfl rfl (by
      show (rPick (fun _ => BitVec.ofNat 32 k) (Shape.Idx.first h_S_)).toInt = _
      rw [pick_at k hk, toInt_small k (by omega)])

/-- The order of two small numbers' words. -/
theorem sgt_small (a k : ℕ) (ha : a < 2147483648) (hk : k < 2147483648) :
    IntOp.cmpi .sgt (BitVec.ofNat 32 a) (BitVec.ofNat 32 k) = 1#1 ↔ k < a := by
  show BitVec.ofBool (BitVec.slt (BitVec.ofNat 32 k) (BitVec.ofNat 32 a)) = 1#1 ↔ _
  rw [ofBool_one, BitVec.slt, toInt_small a ha, toInt_small k hk, decide_eq_true_iff]
  omega

/-- A bit that is a suppression of another by three bits. -/
theorem bit_step (a x y z : BitVec 1) : IntOp.andi a (~~~IntOp.andi (IntOp.andi x y) z) = 1#1 ↔
    a = 1#1 ∧ ¬ (y = 1#1 ∧ x = 1#1 ∧ z = 1#1) := by
  revert a x y z; decide

/-- ONE TRIP at slot `k`. -/
theorem trip_at (Pl : FVec Ideal S8x80x200x200 .f32) (k : ℕ) (hk : k < 200) (al : IVec S8x80x200 1) (b : Fin 8) (j : Fin 80) (q : Fin 200) :
    rTrip Pl (iotaInDim S200 32 0) (fun _ => BitVec.ofNat 32 k) al (ix3 b j q) = 1#1 ↔
      al (ix3 b j q) = 1#1 ∧ ¬ (al (ix3 b j ⟨k, hk⟩) = 1#1 ∧ Ideal.ofBits FTy.f32 1055286886#32 < Pl (ix4 b j ⟨k, hk⟩ q) ∧ k < q.val) := by
  have hq := q.isLt
  have hr := rowK_at Pl k hk b j q
  have ha := alK_at al k hk b j
  pointwise [rTrip]
  rw [hr, ha, bit_step, ofBool_one, decide_eq_true_iff]
  have hs := sgt_small q.val k (by omega) (by omega)
  have hz : IntOp.cmpi .sgt (BitVec.ofNat 32 q.val) (id (fun _ => BitVec.ofNat 32 k : IVec S_ 32) ix0) = 1#1 ↔ k < q.val := hs
  rw [hz]

end Cert.ReferenceIdeal.Val
-- ==== Proof.RReadA.lean ====
/- The reference's first two stretches of operations: the masked scores and the decoded boxes. -/
module

public import proofs.«01_k».proof.Proof.RDef

@[expose] public section

set_option maxRecDepth 16384
noncomputable section
namespace Cert.ReferenceIdeal.Val

open Idealize.ShloMosaic Idealize.ShloMosaic.TcCoe Idealize.SL.Sem
open Cert.ReferenceIdeal Cert.ReferenceIdeal.Gen Cert.Det

variable (W : Valuation τ sig (Elt Ideal))

/-- The boxes after the first stretch. -/
theorem opsA_v26 : StableHlo.after hostOps0 W (Proc.devRef .tc main_v26) =
    rBox (W (Proc.devRef .tc main_arg0)) (W (Proc.devRef .tc main_arg2)) := by
  after_results
  rfl

/-- The scores after the first stretch. -/
theorem opsA_v2 : StableHlo.after hostOps0 W (Proc.devRef .tc main_v2) = rScore (W (Proc.devRef .tc main_arg1)) := by
  after_results
  rfl

end Cert.ReferenceIdeal.Val
-- ==== Proof.RPre.lean ====
/- The loop's entry and what the reference leaves in the end. -/
module

public import proofs.«01_k».proof.Proof.RReadA
public import proofs.«01_k».proof.Proof.RReadC
public import proofs.«01_k».proof.Proof.RReadP

@[expose] public section

set_option maxRecDepth 16384
noncomputable section
namespace Cert.ReferenceIdeal.Val

open Idealize.ShloMosaic Idealize.ShloMosaic.TcCoe Idealize.SL.Sem
open Cert.ReferenceIdeal Cert.ReferenceIdeal.Gen Cert.ReferenceIdeal.Value Cert.Det

section
variable (W : Valuation τ sig (Elt Ideal))

/-- The second stretch keeps the boxes. -/
theorem opsB_v26 : StableHlo.after hostOps0_1 W (Proc.devRef .tc main_v26) = W (Proc.devRef .tc main_v26) := by
  after_results

/-- The candidates' scores at the loop's entry. -/
theorem pre_values : StableHlo.afterL preI W (Proc.devRef .tc main_values) = rVals (rMask (W (Proc.devRef .tc main_arg1))) := by
  simp only [preI, StableHlo.afterL_cons, StableHlo.afterL_nil]
  rw [opsCD, opsD_values, opsC_values, opsAB_v29]

/-- The candidates' boxes at the loop's entry. -/
theorem pre_v46 : StableHlo.afterL preI W (Proc.devRef .tc main_v46) =
    rCand (rBox (W (Proc.devRef .tc main_arg0)) (W (Proc.devRef .tc main_arg2))) (rIdx (rMask (W (Proc.devRef .tc main_arg1)))) := by
  simp only [preI, StableHlo.afterL_cons, StableHlo.afterL_nil]
  rw [opsCD, opsD_v46, opsC_v46, opsAB_v29, opsB_v26, opsA_v26]

/-- The overlap plane at the loop's entry. -/
theorem pre_0 : StableHlo.afterL preI W (Proc.devRef .tc main_v101_0) =
    rPlane (rCand (rBox (W (Proc.devRef .tc main_arg0)) (W (Proc.devRef .tc main_arg2))) (rIdx (rMask (W (Proc.devRef .tc main_arg1))))) := by
  simp only [preI, StableHlo.afterL_cons, StableHlo.afterL_nil]
  rw [opsCD, opsD_0, opsC_v46, opsAB_v29, opsB_v26, opsA_v26]

/-- The slots' numbers at the loop's entry. -/
theorem pre_1 : StableHlo.afterL preI W (Proc.devRef .tc main_v101_1) = iotaInDim S200 32 0 := by
  simp only [preI, StableHlo.afterL_cons, StableHlo.afterL_nil]
  rw [opsCD, opsD_1]

/-- The slot counter at the loop's entry. -/
theorem pre_3 : StableHlo.afterL preI W (Proc.devRef .tc main_v101_3) = constantI S_ 32 0#32 := by
  simp only [preI, StableHlo.afterL_cons, StableHlo.afterL_nil]
  rw [opsCD, opsD_3]

/-- The survivors at the loop's entry. -/
theorem pre_4 : StableHlo.afterL preI W (Proc.devRef .tc main_v101_4) = rValid (rVals (rMask (W (Proc.devRef .tc main_arg1)))) := by
  simp only [preI, StableHlo.afterL_cons, StableHlo.afterL_nil]
  rw [opsCD, opsD_4, opsC_values, opsAB_v29]

end

variable (m : (ℓ : Loc nD τ sig) → Buf (Elt Ideal) ℓ) (c : Dev nD)

/-- What a trip does not write is as at the loop's entry before every trip. -/
theorem atK_keep (r : Ref sig .tc) (h1 : r ∉ condOps_W) (h2 : r ∉ while0Ops0_W) (k : ℕ) :
    atK m k c (Proc.devRef .tc r) = StableHlo.entryContents preI m c (Proc.devRef .tc r) := by
  induction k with
  | zero => rfl
  | succ k ih =>
    refine Eq.trans (?_ : atK m (k + 1) c (Proc.devRef .tc r) = StableHlo.after while0Ops0 (StableHlo.after condOps (atK m k c)) (Proc.devRef .tc r)) ?_
    · rfl
    rw [StableHlo.after_of_writes_sub while0Ops0 _ while0Ops0_writes h2, StableHlo.after_of_writes_sub condOps _ condOps_writes h1, ih]

/-- THE REFERENCE'S RESULT, of the loop's survivors. -/
theorem final_v139 : StableHlo.finalContents condOps preI bodyI postI 200 m c (Proc.devRef .tc main_v139) =
    rOut (rMoved (rSlot ((STEP^[200] (StableHlo.entryContents preI m c)) (Proc.devRef .tc main_v101_4)))
      (rKeep ((STEP^[200] (StableHlo.entryContents preI m c)) (Proc.devRef .tc main_v101_4))
        (rEnt (rVals (rMask (m (c.tc.loc main_arg1))))
          (rCand (rBox (m (c.tc.loc main_arg0)) (m (c.tc.loc main_arg2))) (rIdx (rMask (m (c.tc.loc main_arg1)))))))) := by
  refine (post_v139 _).trans ?_
  rw [StableHlo.after_of_writes_sub condOps _ condOps_writes (r := main_values) (by decide +kernel),
    StableHlo.after_of_writes_sub condOps _ condOps_writes (r := main_v46) (by decide +kernel),
    cond_keeps _ main_v101_4 (by decide)]
  have e1 := atK_keep m c main_values (by decide +kernel) (by decide +kernel) 200
  have e2 := atK_keep m c main_v46 (by decide +kernel) (by decide +kernel) 200
  have e3 := atK_agree m c 200 main_v101_4 (by decide)
  have e4 := pre_values (StableHlo.launchContents m c)
  have e5 := pre_v46 (StableHlo.launchContents m c)
  rw [show StableHlo.atTrip condOps bodyI (StableHlo.entryContents preI m) 200 c = atK m 200 c from rfl, e1, e2, e3]
  rw [show StableHlo.entryContents preI m c = StableHlo.afterL preI (StableHlo.launchContents m c) from rfl, e4, e5]

/-- The stretches after the loop keep argument 0. -/
theorem post_arg0 (W : Valuation τ sig (Elt Ideal)) : StableHlo.afterL postI W (Proc.devRef .tc main_arg0) = W (Proc.devRef .tc main_arg0) := by
  simp only [postI, StableHlo.afterL_cons, StableHlo.afterL_nil]
  after_results

/-- The stretches after the loop keep argument 1. -/
theorem post_arg1 (W : Valuation τ sig (Elt Ideal)) : StableHlo.afterL postI W (Proc.devRef .tc main_arg1) = W (Proc.devRef .tc main_arg1) := by
  simp only [postI, StableHlo.afterL_cons, StableHlo.afterL_nil]
  after_results

/-- The stretches after the loop keep argument 2. -/
theorem post_arg2 (W : Valuation τ sig (Elt Ideal)) : StableHlo.afterL postI W (Proc.devRef .tc main_arg2) = W (Proc.devRef .tc main_arg2) := by
  simp only [postI, StableHlo.afterL_cons, StableHlo.afterL_nil]
  after_results

/-- What no stretch writes is unchanged. -/
theorem final_arg (r : Ref sig .tc)
    (hp : ∀ W : Valuation τ sig (Elt Ideal), StableHlo.afterL postI W (Proc.devRef .tc r) = W (Proc.devRef .tc r))
    (h0 : r ∉ hostOps0_W) (h1 : r ∉ hostOps0_1_W) (h2 : r ∉ hostOps0_2_W) (hc : r ∉ condOps_W) (hw : r ∉ while0Ops0_W) :
    StableHlo.finalContents condOps preI bodyI postI 200 m c (Proc.devRef .tc r) = m (c.tc.loc r) := by
  refine (hp _).trans ?_
  rw [StableHlo.after_of_writes_sub condOps _ condOps_writes hc]
  refine (atK_keep m c r hc hw 200).trans ?_
  simp only [StableHlo.entryContents, preI, StableHlo.afterL_cons, StableHlo.afterL_nil]
  rw [StableHlo.after_of_writes_sub hostOps0_2 _ hostOps0_2_writes h2, StableHlo.after_of_writes_sub hostOps0_1 _ hostOps0_1_writes h1,
    StableHlo.after_of_writes_sub hostOps0 _ hostOps0_writes h0]

/-- THE REFERENCE'S RUN: the result and the arguments at the end. -/
theorem run (ρ : Dev nD → PrngReg) : θ_run (defs (F := Ideal)) (onTc (τ := τ) (main (F := Ideal))) ⟨m, fun _ => 0, ρ⟩
    (fun r => ∀ c : Dev nD, r.2.mem (c.tc.loc main_v139) = StableHlo.finalContents condOps preI bodyI postI 200 m c (Proc.devRef .tc main_v139)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) := by
  refine (θ_run _ _ _).mono (fun r h c => ?_) (run_fold m ρ)
  refine ⟨h c main_v139 rfl, ?_, ?_, ?_⟩
  · rw [h c main_arg0 rfl]
    exact final_arg m c main_arg0 post_arg0 (by decide +kernel) (by decide +kernel) (by decide +kernel) (by decide +kernel) (by decide +kernel)
  · rw [h c main_arg1 rfl]
    exact final_arg m c main_arg1 post_arg1 (by decide +kernel) (by decide +kernel) (by decide +kernel) (by decide +kernel) (by decide +kernel)
  · rw [h c main_arg2 rfl]
    exact final_arg m c main_arg2 post_arg2 (by decide +kernel) (by decide +kernel) (by decide +kernel) (by decide +kernel) (by decide +kernel)

/-- THE REFERENCE'S FRAME: the arguments unchanged and every semaphore counter at zero. -/
theorem frame (ρ : Dev nD → PrngReg) : θ_run (defs (F := Ideal)) (onTc (τ := τ) (main (F := Ideal))) ⟨m, fun _ => 0, ρ⟩
    (fun r => (∀ c : Dev nD, r.2.mem (c.tc.loc main_arg0) = m (c.tc.loc main_arg0)
      ∧ r.2.mem (c.tc.loc main_arg1) = m (c.tc.loc main_arg1)
      ∧ r.2.mem (c.tc.loc main_arg2) = m (c.tc.loc main_arg2)) ∧ r.2.sem = fun _ => 0) :=
  (θ_run _ _ _).mono (fun r h => ⟨fun c => (h c).2, sem_eq_zero_of_no_sems rfl r.2⟩) (run m ρ)

end Cert.ReferenceIdeal.Val
-- ==== Proof.RTop.lean ====
/- The reference's candidates: its masked scores, and the order its sort lists them in. -/
module

public import proofs.«01_k».proof.Proof.RDef
public import proofs.«01_k».proof.Proof.Spec
public import proofs.«01_k».proof.Proof.KBlk

@[expose] public section

set_option maxRecDepth 16384
noncomputable section
namespace Cert.ReferenceIdeal.Val

open Idealize.ShloMosaic Idealize.ShloMosaic.TcCoe Idealize.SL.Sem
open Cert.ReferenceIdeal Cert.ReferenceIdeal.Gen Cert.Det
open Cert.KernelIdeal.Val (scF loF prF msF)

/-- The masked scores read at an index. -/
theorem mask_at (A : FVec Ideal S160000x81 .f32) (b : Fin 8) (j : Fin 80) (p : Fin 20000) :
    rMask A (ix3 b j p) = msF A b j p.val := by
  have hp := p.isLt
  have e : scF A b j p.val = A (ix2 ⟨b.val * 20000 + p.val, by omega⟩ ⟨1 + j.val, by omega⟩) := by rw [scF, dif_pos hp]
  rw [msF, e]
  pointwise [rMask, rScore]
  rw [bits_bot]

/-- The comparator is the strict order. -/
theorem gt_iff (x y : EReal) : FloatOps.cmpfTotal (F := Ideal) (φ := .f32) .gt x y = 1#1 ↔ y < x := by
  show BitVec.ofBool (decide (y < x)) = 1#1 ↔ y < x
  by_cases h : y < x
  · simp [h]
  · simp [h]

/-- The first places along the last axis. -/
theorem front_at {α : Type} (v : S8x80x20000.Idx → α) (b : Fin 8) (j : Fin 80) (q : Fin 200) :
    extractStridedSlice S8x80x200 (fun _ => 0) v sliceFits_S8x80x20000_S8x80x200 (ix3 b j q) = v (ix3 b j ⟨q.val, by have := q.isLt; omega⟩) := by
  have hq := q.isLt
  unfold extractStridedSlice
  refine congrArg v (funext fun a => Fin.ext ?_)
  fin_cases a
  · show 0 + b.val = b.val; omega
  · show 0 + j.val = j.val; omega
  · show 0 + q.val = q.val; omega

/-- The sorted scores. -/
theorem sort_fst {α β : Type} (cmp : α × β → α × β → BitVec 1) (x : S8x80x20000.Idx → α) (y : S8x80x20000.Idx → β) :
    (Host.sort2 S8x80x20000 2 cmp x y).1 = Host.sortBy S8x80x20000 2 cmp (fun i => (x i, y i)) x :=
  congrArg Prod.fst (Host.sort2_eq_sortBy S8x80x20000 2 cmp x y)

/-- The sorted positions. -/
theorem sort_snd {α β : Type} (cmp : α × β → α × β → BitVec 1) (x : S8x80x20000.Idx → α) (y : S8x80x20000.Idx → β) :
    (Host.sort2 S8x80x20000 2 cmp x y).2 = Host.sortBy S8x80x20000 2 cmp (fun i => (x i, y i)) y :=
  congrArg Prod.snd (Host.sort2_eq_sortBy S8x80x20000 2 cmp x y)

/-- A sorted array read at an index. -/
theorem sortBy_at {α ρ : Type} (cmp : ρ → ρ → BitVec 1) (rows : S8x80x20000.Idx → ρ) (x : S8x80x20000.Idx → α)
    (b : Fin 8) (j : Fin 80) (q : Fin 20000) :
    Host.sortBy S8x80x20000 2 cmp rows x (ix3 b j q) =
      x (ix3 b j (sortedFrom (fun k k' => cmp (rows (ix3 b j k)) (rows (ix3 b j k')) == 1#1) q)) := by
  have ha : ∀ k : Fin 20000, Shape.Idx.along (s := S8x80x20000) (ix3 b j q) 2 k = ix3 b j k := fun k => funext fun a => by
    fin_cases a <;> rfl
  unfold Host.sortBy
  rw [dif_pos (by decide : 2 < S8x80x20000.rank)]
  have e : (fun k k' : Fin 20000 => cmp (rows (Shape.Idx.along (s := S8x80x20000) (ix3 b j q) 2 k)) (rows (Shape.Idx.along (s := S8x80x20000) (ix3 b j q) 2 k')) == 1#1)
      = fun k k' => cmp (rows (ix3 b j k)) (rows (ix3 b j k')) == 1#1 := by funext k k'; rw [ha, ha]
  refine Eq.trans (b := x (Shape.Idx.along (s := S8x80x20000) (ix3 b j q) 2 (sortedFrom (fun k k' : Fin 20000 => cmp (rows (Shape.Idx.along (s := S8x80x20000) (ix3 b j q) 2 k)) (rows (Shape.Idx.along (s := S8x80x20000) (ix3 b j q) 2 k')) == 1#1) q))) rfl ?_
  exact congrArg x ((ha _).trans (congrArg (fun B : Fin 20000 → Fin 20000 → Bool => ix3 b j (sortedFrom B q)) e))

/-- THE CANDIDATES: one sorted order gives every candidate's score and position. -/
theorem top_at (M : FVec Ideal S8x80x20000 .f32) (b : Fin 8) (j : Fin 80) (ms : ℕ → EReal) (hM : ∀ p : Fin 20000, M (ix3 b j p) = ms p.val) :
    ∃ σ, Sorted 20000 ms σ ∧ ∀ q : Fin 200, rVals M (ix3 b j q) = ms (σ q.val) ∧ rIdx M (ix3 b j q) = BitVec.ofNat 32 (σ q.val) := by
  refine ⟨_, sorted_of_sort (n := 20000) ms (fun k k' => FloatOps.cmpfTotal (F := Ideal) (φ := .f32) .gt (M (ix3 b j k)) (M (ix3 b j k')) == 1#1) ?_, ?_⟩
  · intro k k'
    rw [beq_iff_eq, gt_iff, hM, hM]
  · intro q
    have hq := q.isLt
    rw [dif_pos (show q.val < 20000 by omega)]
    constructor
    · rw [← hM]
      unfold rVals Host.topK
      dsimp only
      rw [front_at, sort_fst, sortBy_at]
    · unfold rIdx Host.topK
      dsimp only
      rw [front_at, sort_snd, sortBy_at]
      rw [dif_pos (by decide : 2 < S8x80x20000.rank)]
      rfl

end Cert.ReferenceIdeal.Val
-- ==== Proof.RRes.lean ====
/- The reference's result, element by element. -/
module

public import proofs.«01_k».proof.Proof.RLoopA
public import proofs.«01_k».proof.Proof.RPre
public import proofs.«01_k».proof.Proof.RTop

@[expose] public section

set_option maxRecDepth 16384
noncomputable section
namespace Cert.ReferenceIdeal.Val

open Idealize.ShloMosaic Idealize.ShloMosaic.TcCoe Idealize.SL.Sem
open Cert.ReferenceIdeal Cert.ReferenceIdeal.Gen Cert.ReferenceIdeal.Value Cert.Det
open Cert.KernelIdeal.Val (msF loF prF)

/-- Two slots overlap too much, by the plane. -/
def OV (Pl : FVec Ideal S8x80x200x200 .f32) (b : Fin 8) (j : Fin 80) (k q : ℕ) : Prop :=
  ∃ (hk : k < 200) (hq : q < 200), Ideal.ofBits FTy.f32 1055286886#32 < Pl (ix4 b j ⟨k, hk⟩ ⟨q, hq⟩)

/-- The slot counter steps by one. -/
theorem step3_eq (V : Valuation τ sig (Elt Ideal)) (k : ℕ)
    (h : V (Proc.devRef .tc main_v101_3) = (fun _ => BitVec.ofNat 32 k : IVec S_ 32)) :
    step_main_v101_3 V = (fun _ => BitVec.ofNat 32 (k + 1) : IVec S_ 32) := by
  refine Eq.trans (?_ : step_main_v101_3 V = addi (V (Proc.devRef .tc main_v101_3) : IVec S_ 32) (constantI S_ 32 1#32)) ?_
  · rfl
  rw [h]
  funext x
  show BitVec.ofNat 32 k + 1#32 = BitVec.ofNat 32 (k + 1)
  rw [BitVec.ofNat_add]

/-- THE LOOP: after `k` trips the survivors are those alive after `k` slots. -/
theorem loop_at (V : Valuation τ sig (Elt Ideal)) (Pl : FVec Ideal S8x80x200x200 .f32) (A : IVec S8x80x200 1)
    (h0 : V (Proc.devRef .tc main_v101_0) = Pl) (h1 : V (Proc.devRef .tc main_v101_1) = iotaInDim S200 32 0)
    (h3 : V (Proc.devRef .tc main_v101_3) = (fun _ => BitVec.ofNat 32 0 : IVec S_ 32)) (h4 : V (Proc.devRef .tc main_v101_4) = A)
    (b : Fin 8) (j : Fin 80) (k : ℕ) (hk : k ≤ 200) :
    (STEP^[k] V) (Proc.devRef .tc main_v101_0) = Pl ∧ (STEP^[k] V) (Proc.devRef .tc main_v101_1) = iotaInDim S200 32 0 ∧
    (STEP^[k] V) (Proc.devRef .tc main_v101_3) = (fun _ => BitVec.ofNat 32 k : IVec S_ 32) ∧
    ∀ q, AL ((STEP^[k] V) (Proc.devRef .tc main_v101_4)) b j q ↔ alive (AL A b j) (OV Pl b j) k q := by
  induction k with
  | zero => exact ⟨h0, h1, h3, fun q => by rw [Function.iterate_zero_apply, h4]; rfl⟩
  | succ k ih =>
    obtain ⟨i0, i1, i3, i4⟩ := ih (by omega)
    rw [Function.iterate_succ_apply']
    generalize STEP^[k] V = X at *
    refine ⟨(STEP_main_v101_0 X).trans i0, (STEP_main_v101_1 X).trans i1, (STEP_main_v101_3 X).trans (step3_eq X k i3), fun q => ?_⟩
    rw [STEP_main_v101_4, step_eq, i0, i1, i3]
    generalize X (Proc.devRef .tc main_v101_4) = al at *
    show _ ↔ alive (AL A b j) (OV Pl b j) k q ∧ ¬ (alive (AL A b j) (OV Pl b j) k k ∧ OV Pl b j k q ∧ k < q)
    rw [← i4 q, ← i4 k]
    have hk' : k < 200 := by omega
    constructor
    · rintro ⟨hq, h⟩
      obtain ⟨ha, hn⟩ := (trip_at Pl k hk' al b j ⟨q, hq⟩).1 h
      exact ⟨⟨hq, ha⟩, fun ⟨⟨_, e1⟩, ⟨_, _, e2⟩, e3⟩ => hn ⟨e1, e2, e3⟩⟩
    · rintro ⟨⟨hq, ha⟩, hn⟩
      exact ⟨hq, (trip_at Pl k hk' al b j ⟨q, hq⟩).2 ⟨ha, fun ⟨e1, e2, e3⟩ => hn ⟨⟨hk', e1⟩, ⟨hk', hq, e2⟩, e3⟩⟩⟩

variable (m : (ℓ : Loc nD τ sig) → Buf (Elt Ideal) ℓ) (c : Dev nD)

/-- The survivors in the end. -/
def alF : IVec S8x80x200 1 := (STEP^[200] (StableHlo.entryContents preI m c)) (Proc.devRef .tc main_v101_4)

/-- The candidates' boxes. -/
def candF : FVec Ideal S8x80x200x4 .f32 :=
  rCand (rBox (m (c.tc.loc main_arg0)) (m (c.tc.loc main_arg2))) (rIdx (rMask (m (c.tc.loc main_arg1))))

/-- The candidates' scores. -/
def valsF : FVec Ideal S8x80x200 .f32 := rVals (rMask (m (c.tc.loc main_arg1)))

/-- The survivors in the end, as those alive after every slot. -/
theorem alF_iff (b : Fin 8) (j : Fin 80) (q : ℕ) :
    AL (alF m c) b j q ↔ alive (AL (rValid (valsF m c)) b j) (OV (rPlane (candF m c)) b j) 200 q := by
  refine (loop_at (StableHlo.entryContents preI m c) (rPlane (candF m c)) (rValid (valsF m c)) ?_ ?_ ?_ ?_ b j 200 le_rfl).2.2.2 q
  · exact pre_0 (StableHlo.launchContents m c)
  · exact pre_1 (StableHlo.launchContents m c)
  · exact pre_3 (StableHlo.launchContents m c)
  · exact pre_4 (StableHlo.launchContents m c)

/-- The result the reference leaves. -/
def resF : FVec Ideal S8x81x200x5 .f32 :=
  rOut (rMoved (rSlot (alF m c)) (rKeep (alF m c) (rEnt (valsF m c) (candF m c))))

/-- THE REFERENCE'S FOREGROUND: for some best-first order of the masked scores, each place holds the compaction of the
    survivors' entries. -/
theorem res_isOut (b : Fin 8) (j : Fin 80) (p : Fin 200) (f : Fin 5) (h : j.val + 1 < 81) :
    ∃ σ, Sorted 20000 (msF (m (c.tc.loc main_arg1)) b j) σ ∧
      IsOut (keptS (loF (m (c.tc.loc main_arg0)) b) (prF (m (c.tc.loc main_arg2))) (msF (m (c.tc.loc main_arg1)) b j) σ)
        (entS (loF (m (c.tc.loc main_arg0)) b) (prF (m (c.tc.loc main_arg2))) (msF (m (c.tc.loc main_arg1)) b j) σ f) p.val
        (resF m c (ix4 b ⟨j.val + 1, h⟩ p f)) := by
  obtain ⟨σ, hσ, hq⟩ := top_at (rMask (m (c.tc.loc main_arg1))) b j _ (mask_at (m (c.tc.loc main_arg1)) b j)
  refine ⟨σ, hσ, ?_⟩
  have hlt : ∀ q : Fin 200, σ q.val < 20000 := fun q => hσ.lt q.val (by have := q.isLt; omega)
  have hv : ∀ q : Fin 200, valsF m c (ix3 b j q) = msF (m (c.tc.loc main_arg1)) b j (σ q.val) := fun q => (hq q).1
  have hc : ∀ (q : Fin 200) (f : Fin 4), candF m c (ix4 b j q f) =
      dec (loF (m (c.tc.loc main_arg0)) b) (prF (m (c.tc.loc main_arg2))) f.val (σ q.val) := fun q f => by
    unfold candF
    rw [cand_at _ _ b j q f _ (hlt q) (hq q).2, box_at]
  have hval : ∀ q, AL (rValid (valsF m c)) b j q ↔ validS (msF (m (c.tc.loc main_arg1)) b j) σ q := fun q => by
    constructor
    · rintro ⟨hq, e⟩
      have := (valid_at (valsF m c) b j ⟨q, hq⟩).1 e
      rw [hv] at this
      exact ⟨hq, this⟩
    · rintro ⟨hq, e⟩
      exact ⟨hq, (valid_at (valsF m c) b j ⟨q, hq⟩).2 (by rw [hv]; exact e)⟩
  have hov : ∀ k q, AL (rValid (valsF m c)) b j k → AL (rValid (valsF m c)) b j q →
      (OV (rPlane (candF m c)) b j k q ↔ ovS (loF (m (c.tc.loc main_arg0)) b) (prF (m (c.tc.loc main_arg2))) σ k q) := by
    rintro k q ⟨hk, _⟩ ⟨hq, _⟩
    have e : rPlane (candF m c) (ix4 b j ⟨k, hk⟩ ⟨q, hq⟩) = iouP (loF (m (c.tc.loc main_arg0)) b) (prF (m (c.tc.loc main_arg2))) (σ k) (σ q) := by
      rw [plane_at]
      simp only [hc]
      rfl
    unfold ovS
    rw [← e]
    exact ⟨fun ⟨_, _, h⟩ => h, fun h => ⟨hk, hq, h⟩⟩
  have hA : ∀ q, AL (alF m c) b j q ↔
      keptS (loF (m (c.tc.loc main_arg0)) b) (prF (m (c.tc.loc main_arg2))) (msF (m (c.tc.loc main_arg1)) b j) σ q := fun q =>
    (alF_iff m c b j q).trans (alive_congr hval hov 200 q)
  have hAe := funext fun q => propext (hA q)
  rw [← hAe, resF, out_succ]
  refine moved_isOut _ _ b j p f _ fun q hal => ?_
  obtain ⟨_, e⟩ := hal
  rw [keep_at _ _ _ b j q e f, entS]
  by_cases h0 : f.val = 0
  · rw [dif_pos h0, if_pos h0, hv]
  · rw [dif_neg h0, if_neg h0, hc]

end Cert.ReferenceIdeal.Val
-- ==== Proof.Join.lean ====
/- The two programs' results are equal. -/
module

public import proofs.«01_k».proof.Proof.KRes
public import proofs.«01_k».proof.Proof.RRes

@[expose] public section

set_option maxRecDepth 16384
noncomputable section
namespace Cert.Join

open Idealize.ShloMosaic Idealize.ShloMosaic.TcCoe Idealize.SL.Sem Cert.Det

/-- An index of the result, coordinate by coordinate. -/
theorem eta (k : Cert.KernelIdeal.S8x81x200x5.Idx) : ∃ (b : Fin 8) (j : Fin 81) (q : Fin 200) (f : Fin 5), k = ix4 b j q f :=
  ⟨k 0, k 1, k 2, k 3, funext fun a => by fin_cases a <;> rfl⟩

/-- Two values at one place of one compaction are equal. -/
theorem unique_same {A : ℕ → Prop} {val : ℕ → EReal} {p : ℕ} {x x' : EReal} (h : IsOut A val p x) (h' : IsOut A val p x') : x = x' :=
  h.unique (fun _ => Iff.rfl) (fun _ _ => rfl) h'

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The kernel's result. -/
def resK (c : Dev Cert.KernelIdeal.nD) : FVec Ideal Cert.KernelIdeal.S8x81x200x5 .f32 :=
  Cert.KernelIdeal.Val.tailF ((Cert.KernelIdeal.Gen.dats m 0 c).arrAt 3 (Cert.KernelIdeal.cfgs 0).N)

/-- THE RESULTS ARE EQUAL, from equal arguments. -/
theorem res_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Val.resF m' c = resK m c := by
  funext k
  obtain ⟨b, j, q, f, rfl⟩ := eta k
  rcases j with ⟨j, hj⟩
  cases j with
  | zero =>
    exact (Cert.ReferenceIdeal.Val.out_zero _ b q f).trans (Cert.KernelIdeal.Val.tailF_zero _ b q f).symm
  | succ j =>
    obtain ⟨σ, hσ, hr⟩ := Cert.ReferenceIdeal.Val.res_isOut m' c b ⟨j, by omega⟩ q f hj
    rw [h0, h1, h2] at hr
    rw [h1] at hσ
    have hk := Cert.KernelIdeal.Val.res_good m c b ⟨j, by omega⟩ q f σ hσ
    exact unique_same hr hk

/-- THE KERNEL'S RUN: the result and the arguments at the end. -/
theorem runK (ρ : Dev Cert.KernelIdeal.nD → PrngReg) : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v0) = resK m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  refine (θ_run _ _ _).mono (fun r h c => ?_) (θ_run_and (Cert.KernelIdeal.Gen.run_main m ρ) (Cert.KernelIdeal.Gen.frame m ρ))
  refine ⟨?_, (h.2.1 c).1, (h.2.1 c).2.1, (h.2.1 c).2.2⟩
  exact ((h.1 c).2 Cert.KernelIdeal.main_v0 (by decide)).trans (Cert.KernelIdeal.Val.tail_eq m c)

/-- THE REFERENCE'S RUN: the result of its survivors, and the arguments at the end. -/
theorem runR (ρ : Dev Cert.ReferenceIdeal.nD → PrngReg) : θ_run (Cert.ReferenceIdeal.defs (F := Ideal)) (onTc (τ := Cert.ReferenceIdeal.τ) (Cert.ReferenceIdeal.main (F := Ideal))) ⟨m', fun _ => 0, ρ⟩
    (fun r => ∀ c : Dev Cert.ReferenceIdeal.nD,
      r.2.mem ((c.tc : Thread Cert.ReferenceIdeal.nD Cert.ReferenceIdeal.τ).loc Cert.ReferenceIdeal.main_v139) = Cert.ReferenceIdeal.Val.resF m' c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run _ _ _).mono (fun _ h c => ⟨(h c).1.trans (Cert.ReferenceIdeal.Val.final_v139 m' c), (h c).2⟩) (Cert.ReferenceIdeal.Val.run m' ρ)

end Cert.Join
-- ==== Proof.lean ====
/- The proof of the certificate's claim: the three frames, the (empty) idealization, and the equality of the results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Join
public import Idealize.ShloMosaic.Adequacy
public import Idealize.ShloMosaic.Init

@[expose] public section

noncomputable section

namespace Cert.Proof

open Idealize.ShloMosaic Idealize.SL.Sem Cert.Kernel

/-- The kernel and the reference end with equal results, from equal arguments. -/
theorem algebraic : Cert.algebraic_KernelIdeal_ReferenceIdeal := by
  intro m g m' g' _ ha
  refine ⟨Cert.Join.resK m, Cert.Join.runK m g, ?_⟩
  refine (θ_run _ _ _).mono (fun r h c => ⟨(h c).1.trans ?_, (h c).2⟩) (Cert.Join.runR m' g')
  exact Cert.Join.res_eq m m' c (ha c).1 (ha c).2.1 (ha c).2.2

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Val.frame m ρ,
  trivial, algebraic⟩

end Cert.Proof

end
